-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_bounds [hPre_ordered_bounds : Cert.Pre_ordered_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_bounds [hPre_ordered_bounds : Cert.Pre_ordered_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ordered_bounds [hKernelIdeal : Cert.KernelIdeal.Facts] [hPre_ordered_bounds : Cert.Pre_ordered_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_bounds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ordered_bounds [hReferenceIdeal : Cert.ReferenceIdeal.Facts] [hPre_ordered_bounds : Cert.Pre_ordered_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_ordered_bounds [hKernelIdeal : Cert.KernelIdeal.Facts] [hReferenceIdeal : Cert.ReferenceIdeal.Facts] [hPre_ordered_bounds : Cert.Pre_ordered_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_bounds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)) (v3 : (c : Dev Cert.KernelIdeal.nD) → Buf (Elt Ideal) ((c.tc : Thread Cert.KernelIdeal.nD Cert.KernelIdeal.τ).loc Cert.KernelIdeal.main_v46)) (v4 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_v46) = v3 c
          ∧ r.2.mem ((c.tc : Thread Cert.KernelIdeal.nD Cert.KernelIdeal.τ).loc Cert.KernelIdeal.main_v47) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v234) = v1 c
          ∧ r.2.mem ((c.tc : Thread Cert.ReferenceIdeal.nD Cert.ReferenceIdeal.τ).loc Cert.ReferenceIdeal.main_v236) = v2 c
          ∧ r.2.mem ((c.tc : Thread Cert.ReferenceIdeal.nD Cert.ReferenceIdeal.τ).loc Cert.ReferenceIdeal.main_v237) = v3 c
          ∧ r.2.mem ((c.tc : Thread Cert.ReferenceIdeal.nD Cert.ReferenceIdeal.τ).loc Cert.ReferenceIdeal.main_v230) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ordered_bounds : Cert.Pre_ordered_bounds.Facts),
    quiescent_Kernel (hKernel := hKernel)
    ∧ quiescent_KernelIdeal (hKernelIdeal := hKernelIdeal)
    ∧ quiescent_KernelIdeal_pre_ordered_bounds (hKernelIdeal := hKernelIdeal) (hPre_ordered_bounds := hPre_ordered_bounds)
    ∧ quiescent_ReferenceIdeal (hReferenceIdeal := hReferenceIdeal)
    ∧ quiescent_ReferenceIdeal_pre_ordered_bounds (hReferenceIdeal := hReferenceIdeal) (hPre_ordered_bounds := hPre_ordered_bounds)
    ∧ preserves_Kernel_KernelIdeal
    ∧ algebraic_KernelIdeal_ReferenceIdeal_pre_ordered_bounds (hKernelIdeal := hKernelIdeal) (hReferenceIdeal := hReferenceIdeal) (hPre_ordered_bounds := hPre_ordered_bounds)
-- ==== Pre_ordered_bounds.lean ====
abbrev S4096x3 : Shape := ⟨2, ![4096, 3]⟩
abbrev S4096x2 : Shape := ⟨2, ![4096, 2]⟩
abbrev S3x256 : Shape := ⟨2, ![3, 256]⟩
abbrev S256 : Shape := ⟨1, ![256]⟩
abbrev S256x4 : Shape := ⟨2, ![256, 4]⟩
abbrev S4 : Shape := ⟨1, ![4]⟩
abbrev S4096x1 : Shape := ⟨2, ![4096, 1]⟩
abbrev S4096 : Shape := ⟨1, ![4096]⟩
abbrev S_ : Shape := ⟨0, ![]⟩

class Facts : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x3 .f32) (main_arg1 : FVec F S4096x3 .f32) (main_arg2 : FVec F S4096x2 .f32) (main_arg3 : FVec F S3x256 .f32) (main_arg4 : FVec F S256 .f32) (main_arg5 : FVec F S256x4 .f32) (main_arg6 : FVec F S4 .f32) : IVec S_ 1 :=
  let main_v0 : FVec F S4096x1 .f32 := (extractStridedSlice S4096x1 ![0, 0] · slices_S4096x2_S4096x1_0_0) main_arg2
  let main_v1 : FVec F S4096 .f32 := shapeCast S4096 main_v0 shapeCasts_S4096x1_S4096
  let main_v2 : FVec F S4096x1 .f32 := (extractStridedSlice S4096x1 ![0, 1] · slices_S4096x2_S4096x1_0_1) main_arg2
  let main_v3 : FVec F S4096 .f32 := shapeCast S4096 main_v2 shapeCasts_S4096x1_S4096
  let main_v4 : IVec S4096 1 := cmpf .ole main_v1 main_v3
  let main_cst : FVec F S_ .f32 := constant S_ .f32 0xFF800000#32
  let main_v5 : FVec F S4096 .f32 := broadcastInDim S4096 ![] bcast_S_S4096 main_cst
  let main_v6 : IVec S4096 1 := cmpf .ogt main_v1 main_v5
  let main_v7 : IVec S4096 1 := andi main_v4 main_v6
  let main_cst_0 : FVec F S_ .f32 := constant S_ .f32 0x7F800000#32
  let main_v8 : FVec F S4096 .f32 := broadcastInDim S4096 ![] bcast_S_S4096 main_cst_0
  let main_v9 : IVec S4096 1 := cmpf .olt main_v3 main_v8
  let main_v10 : IVec S4096 1 := andi main_v7 main_v9
  let main_c : IVec S_ 1 := constantI S_ 1 1#1
  let main_v11 : IVec S_ 1 := (fun x v => Host.reduce IntOp.andi x v reducesTo_S4096_S_d0 h_S_) main_v10 main_c
  main_v11
-- ==== Kernel.lean ====
abbrev S4096x3 : Shape := ⟨2, ![4096, 3]⟩
abbrev S4096x2 : Shape := ⟨2, ![4096, 2]⟩
abbrev S3x256 : Shape := ⟨2, ![3, 256]⟩
abbrev S256 : Shape := ⟨1, ![256]⟩
abbrev S256x4 : Shape := ⟨2, ![256, 4]⟩
abbrev S4 : Shape := ⟨1, ![4]⟩
abbrev S_ : Shape := ⟨0, ![]⟩
abbrev S63 : Shape := ⟨1, ![63]⟩
abbrev S1 : Shape := ⟨1, ![1]⟩
abbrev S64 : Shape := ⟨1, ![64]⟩
abbrev S1x64 : Shape := ⟨2, ![1, 64]⟩
abbrev S64x1 : Shape := ⟨2, ![64, 1]⟩
abbrev S127 : Shape := ⟨1, ![127]⟩
abbrev S128 : Shape := ⟨1, ![128]⟩
abbrev S128x1 : Shape := ⟨2, ![128, 1]⟩
abbrev S256x3 : Shape := ⟨2, ![256, 3]⟩
abbrev S4x256 : Shape := ⟨2, ![4, 256]⟩
abbrev S256x1 : Shape := ⟨2, ![256, 1]⟩
abbrev S4x1 : Shape := ⟨2, ![4, 1]⟩
abbrev S3x4096 : Shape := ⟨2, ![3, 4096]⟩
abbrev S2x4096 : Shape := ⟨2, ![2, 4096]⟩
abbrev S64x1x1 : Shape := ⟨3, ![64, 1, 1]⟩
abbrev S4x262144 : Shape := ⟨2, ![4, 262144]⟩
abbrev S8x1x1 : Shape := ⟨3, ![8, 1, 1]⟩
abbrev S4x32768 : Shape := ⟨2, ![4, 32768]⟩
abbrev S1x4096 : Shape := ⟨2, ![1, 4096]⟩
abbrev S8x1 : Shape := ⟨2, ![8, 1]⟩
abbrev S1x1 : Shape := ⟨2, ![1, 1]⟩
abbrev S3x32768 : Shape := ⟨2, ![3, 32768]⟩
abbrev S256x32768 : Shape := ⟨2, ![256, 32768]⟩
abbrev S1x262144 : Shape := ⟨2, ![1, 262144]⟩
abbrev S262144 : Shape := ⟨1, ![262144]⟩
abbrev S64x4096 : Shape := ⟨2, ![64, 4096]⟩
abbrev S192x4096 : Shape := ⟨2, ![192, 4096]⟩
abbrev S3x128 : Shape := ⟨2, ![3, 128]⟩
abbrev S2x128 : Shape := ⟨2, ![2, 128]⟩
abbrev S64x128 : Shape := ⟨2, ![64, 128]⟩
abbrev S192x128 : Shape := ⟨2, ![192, 128]⟩
abbrev S1x128 : Shape := ⟨2, ![1, 128]⟩
abbrev S63x128 : Shape := ⟨2, ![63, 128]⟩
abbrev S62x128 : Shape := ⟨2, ![62, 128]⟩
abbrev S4x128 : Shape := ⟨2, ![4, 128]⟩
abbrev S60x128 : Shape := ⟨2, ![60, 128]⟩
abbrev S8x128 : Shape := ⟨2, ![8, 128]⟩
abbrev S56x128 : Shape := ⟨2, ![56, 128]⟩
abbrev S16x128 : Shape := ⟨2, ![16, 128]⟩
abbrev S48x128 : Shape := ⟨2, ![48, 128]⟩
abbrev S32x128 : Shape := ⟨2, ![32, 128]⟩
abbrev S64x1x128 : Shape := ⟨3, ![64, 1, 128]⟩
abbrev S1x128x1 : Shape := ⟨3, ![1, 128, 1]⟩
abbrev S64x128x128 : Shape := ⟨3, ![64, 128, 128]⟩
abbrev S128x128 : Shape := ⟨2, ![128, 128]⟩
abbrev S256x128 : Shape := ⟨2, ![256, 128]⟩
abbrev S224x128 : Shape := ⟨2, ![224, 128]⟩
abbrev S240x128 : Shape := ⟨2, ![240, 128]⟩
abbrev S248x128 : Shape := ⟨2, ![248, 128]⟩
abbrev S252x128 : Shape := ⟨2, ![252, 128]⟩
abbrev S254x128 : Shape := ⟨2, ![254, 128]⟩
abbrev S255x128 : Shape := ⟨2, ![255, 128]⟩
abbrev S192x1x4096 : Shape := ⟨3, ![192, 1, 4096]⟩
abbrev S4x786432 : Shape := ⟨2, ![4, 786432]⟩
abbrev S8x1x4096 : Shape := ⟨3, ![8, 1, 4096]⟩
abbrev S8x4096 : Shape := ⟨2, ![8, 4096]⟩
abbrev S1x786432 : Shape := ⟨2, ![1, 786432]⟩
abbrev S786432 : Shape := ⟨1, ![786432]⟩
abbrev S191x128 : Shape := ⟨2, ![191, 128]⟩
abbrev S190x128 : Shape := ⟨2, ![190, 128]⟩
abbrev S188x128 : Shape := ⟨2, ![188, 128]⟩
abbrev S184x128 : Shape := ⟨2, ![184, 128]⟩
abbrev S176x128 : Shape := ⟨2, ![176, 128]⟩
abbrev S160x128 : Shape := ⟨2, ![160, 128]⟩
abbrev S4096 : Shape := ⟨1, ![4096]⟩
abbrev S4096x192 : Shape := ⟨2, ![4096, 192]⟩

abbrev nBuf : Space → Nat
  | .hbm => 103
  | .vmem => 59
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S4096x2, .f32⟩
  | .hbm, ⟨3, _⟩ => ⟨S3x256, .f32⟩
  | .hbm, ⟨4, _⟩ => ⟨S256, .f32⟩
  | .hbm, ⟨5, _⟩ => ⟨S256x4, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S63, .f32⟩
  | .hbm, ⟨15, _⟩ => ⟨S_, .f32⟩
  | .hbm, ⟨16, _⟩ => ⟨S63, .f32⟩
  | .hbm, ⟨17, _⟩ => ⟨S63, .f32⟩
  | .hbm, ⟨18, _⟩ => ⟨S1, .f32⟩
  | .hbm, ⟨19, _⟩ => ⟨S_, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S63, .f32⟩
  | .hbm, ⟨24, _⟩ => ⟨S1, .f32⟩
  | .hbm, ⟨25, _⟩ => ⟨S63, .f32⟩
  | .hbm, ⟨26, _⟩ => ⟨S63, .f32⟩
  | .hbm, ⟨27, _⟩ => ⟨S63, .f32⟩
  | .hbm, ⟨28, _⟩ => ⟨S1, .f32⟩
  | .hbm, ⟨29, _⟩ => ⟨S64, .f32⟩
  | .hbm, ⟨30, _⟩ => ⟨S1x64, .f32⟩
  | .hbm, ⟨31, _⟩ => ⟨S64x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S127, .f32⟩
  | .hbm, ⟨40, _⟩ => ⟨S_, .f32⟩
  | .hbm, ⟨41, _⟩ => ⟨S127, .f32⟩
  | .hbm, ⟨42, _⟩ => ⟨S127, .f32⟩
  | .hbm, ⟨43, _⟩ => ⟨S1, .f32⟩
  | .hbm, ⟨44, _⟩ => ⟨S_, .f32⟩
  | .hbm, ⟨45, _⟩ => ⟨S127, .f32⟩
  | .hbm, ⟨46, _⟩ => ⟨S127, .f32⟩
  | .hbm, ⟨47, _⟩ => ⟨S127, .f32⟩
  | .hbm, ⟨48, _⟩ => ⟨S127, .f32⟩
  | .hbm, ⟨49, _⟩ => ⟨S1, .f32⟩
  | .hbm, ⟨50, _⟩ => ⟨S127, .f32⟩
  | .hbm, ⟨51, _⟩ => ⟨S127, .f32⟩
  | .hbm, ⟨52, _⟩ => ⟨S127, .f32⟩
  | .hbm, ⟨53, _⟩ => ⟨S1, .f32⟩
  | .hbm, ⟨54, _⟩ => ⟨S128, .f32⟩
  | .hbm, ⟨55, _⟩ => ⟨S128, .f32⟩
  | .hbm, ⟨56, _⟩ => ⟨S128x1, .f32⟩
  | .hbm, ⟨57, _⟩ => ⟨S256x3, .f32⟩
  | .hbm, ⟨58, _⟩ => ⟨S4x256, .f32⟩
  | .hbm, ⟨59, _⟩ => ⟨S256x1, .f32⟩
  | .hbm, ⟨60, _⟩ => ⟨S4x1, .f32⟩
  | .hbm, ⟨61, _⟩ => ⟨S3x4096, .f32⟩
  | .hbm, ⟨62, _⟩ => ⟨S3x4096, .f32⟩
  | .hbm, ⟨63, _⟩ => ⟨S2x4096, .f32⟩
  | .hbm, ⟨64, _⟩ => ⟨S64x1x1, .f32⟩
  | .hbm, ⟨65, _⟩ => ⟨S4x262144, .f32⟩
  | .hbm, ⟨66, _⟩ => ⟨S1x262144, .f32⟩
  | .hbm, ⟨67, _⟩ => ⟨S262144, .f32⟩
  | .hbm, ⟨68, _⟩ => ⟨S64x4096, .f32⟩
  | .hbm, ⟨69, _⟩ => ⟨S1x262144, .f32⟩
  | .hbm, ⟨70, _⟩ => ⟨S262144, .f32⟩
  | .hbm, ⟨71, _⟩ => ⟨S64x4096, .f32⟩
  | .hbm, ⟨72, _⟩ => ⟨S1x262144, .f32⟩
  | .hbm, ⟨73, _⟩ => ⟨S262144, .f32⟩
  | .hbm, ⟨74, _⟩ => ⟨S64x4096, .f32⟩
  | .hbm, ⟨75, _⟩ => ⟨S1x262144, .f32⟩
  | .hbm, ⟨76, _⟩ => ⟨S262144, .f32⟩
  | .hbm, ⟨77, _⟩ => ⟨S64x4096, .f32⟩
  | .hbm, ⟨78, _⟩ => ⟨S3x4096, .f32⟩
  | .hbm, ⟨79, _⟩ => ⟨S192x4096, .f32⟩
  | .hbm, ⟨80, _⟩ => ⟨S192x1x4096, .f32⟩
  | .hbm, ⟨81, _⟩ => ⟨S4x786432, .f32⟩
  | .hbm, ⟨82, _⟩ => ⟨S1x786432, .f32⟩
  | .hbm, ⟨83, _⟩ => ⟨S786432, .f32⟩
  | .hbm, ⟨84, _⟩ => ⟨S192x4096, .f32⟩
  | .hbm, ⟨85, _⟩ => ⟨S1x786432, .f32⟩
  | .hbm, ⟨86, _⟩ => ⟨S786432, .f32⟩
  | .hbm, ⟨87, _⟩ => ⟨S192x4096, .f32⟩
  | .hbm, ⟨88, _⟩ => ⟨S1x786432, .f32⟩
  | .hbm, ⟨89, _⟩ => ⟨S786432, .f32⟩
  | .hbm, ⟨90, _⟩ => ⟨S192x4096, .f32⟩
  | .hbm, ⟨91, _⟩ => ⟨S1x786432, .f32⟩
  | .hbm, ⟨92, _⟩ => ⟨S786432, .f32⟩
  | .hbm, ⟨93, _⟩ => ⟨S192x4096, .f32⟩
  | .hbm, ⟨94, _⟩ => ⟨S3x4096, .f32⟩
  | .hbm, ⟨95, _⟩ => ⟨S1x4096, .f32⟩
  | .hbm, ⟨96, _⟩ => ⟨S1x4096, .f32⟩
  | .hbm, ⟨97, _⟩ => ⟨S192x4096, .f32⟩
  | .hbm, ⟨98, _⟩ => ⟨S4096x3, .f32⟩
  | .hbm, ⟨99, _⟩ => ⟨S4096x3, .f32⟩
  | .hbm, ⟨100, _⟩ => ⟨S4096, .f32⟩
  | .hbm, ⟨101, _⟩ => ⟨S4096, .f32⟩
  | .hbm, ⟨102, _⟩ => ⟨S4096x192, .f32⟩
  | .local _ .vmem, ⟨0, _⟩ => ⟨S3x4096, .f32⟩
  | .local _ .vmem, ⟨1, _⟩ => ⟨S3x4096, .f32⟩
  | .local _ .vmem, ⟨2, _⟩ => ⟨S2x4096, .f32⟩
  | .local _ .vmem, ⟨3, _⟩ => ⟨S8x1x1, .f32⟩
  | .local _ .vmem, ⟨4, _⟩ => ⟨S8x1x1, .f32⟩
  | .local _ .vmem, ⟨5, _⟩ => ⟨S256x3, .f32⟩
  | .local _ .vmem, ⟨6, _⟩ => ⟨S256x1, .f32⟩
  | .local _ .vmem, ⟨7, _⟩ => ⟨S4x256, .f32⟩
  | .local _ .vmem, ⟨8, _⟩ => ⟨S4x1, .f32⟩
  | .local _ .vmem, ⟨9, _⟩ => ⟨S4x32768, .f32⟩
  | .local _ .vmem, ⟨10, _⟩ => ⟨S4x32768, .f32⟩
  | .local _ .vmem, ⟨11, _⟩ => ⟨S3x128, .f32⟩
  | .local _ .vmem, ⟨12, _⟩ => ⟨S3x128, .f32⟩
  | .local _ .vmem, ⟨13, _⟩ => ⟨S2x128, .f32⟩
  | .local _ .vmem, ⟨14, _⟩ => ⟨S2x128, .f32⟩
  | .local _ .vmem, ⟨15, _⟩ => ⟨S64x1, .f32⟩
  | .local _ .vmem, ⟨16, _⟩ => ⟨S128x1, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S3x128, .f32⟩
  | .local _ .vmem, ⟨26, _⟩ => ⟨S3x128, .f32⟩
  | .local _ .vmem, ⟨27, _⟩ => ⟨S192x128, .f32⟩
  | .local _ .vmem, ⟨28, _⟩ => ⟨S192x128, .f32⟩
  | .local _ .vmem, ⟨29, _⟩ => ⟨S3x4096, .f32⟩
  | .local _ .vmem, ⟨30, _⟩ => ⟨S3x4096, .f32⟩
  | .local _ .vmem, ⟨31, _⟩ => ⟨S8x1x4096, .f32⟩
  | .local _ .vmem, ⟨32, _⟩ => ⟨S8x1x4096, .f32⟩
  | .local _ .vmem, ⟨33, _⟩ => ⟨S256x3, .f32⟩
  | .local _ .vmem, ⟨34, _⟩ => ⟨S256x1, .f32⟩
  | .local _ .vmem, ⟨35, _⟩ => ⟨S4x256, .f32⟩
  | .local _ .vmem, ⟨36, _⟩ => ⟨S4x1, .f32⟩
  | .local _ .vmem, ⟨37, _⟩ => ⟨S4x32768, .f32⟩
  | .local _ .vmem, ⟨38, _⟩ => ⟨S4x32768, .f32⟩
  | .local _ .vmem, ⟨39, _⟩ => ⟨S3x128, .f32⟩
  | .local _ .vmem, ⟨40, _⟩ => ⟨S3x128, .f32⟩
  | .local _ .vmem, ⟨41, _⟩ => ⟨S192x128, .f32⟩
  | .local _ .vmem, ⟨42, _⟩ => ⟨S192x128, .f32⟩
  | .local _ .vmem, ⟨43, _⟩ => ⟨S192x128, .f32⟩
  | .local _ .vmem, ⟨44, _⟩ => ⟨S192x128, .f32⟩
  | .local _ .vmem, ⟨45, _⟩ => ⟨S192x128, .f32⟩
  | .local _ .vmem, ⟨46, _⟩ => ⟨S192x128, .f32⟩
  | .local _ .vmem, ⟨47, _⟩ => ⟨S192x128, .f32⟩
  | .local _ .vmem, ⟨48, _⟩ => ⟨S192x128, .f32⟩
  | .local _ .vmem, ⟨49, _⟩ => ⟨S192x128, .f32⟩
  | .local _ .vmem, ⟨50, _⟩ => ⟨S192x128, .f32⟩
  | .local _ .vmem, ⟨51, _⟩ => ⟨S3x128, .f32⟩
  | .local _ .vmem, ⟨52, _⟩ => ⟨S3x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S192x128, .f32⟩
  | .local _ .vmem, ⟨58, _⟩ => ⟨S192x128, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_cst_1 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_cst : Ref sig .tc := ⟨.hbm, 37, rfl⟩
abbrev main_call1_v3 : Ref sig .tc := ⟨.hbm, 38, rfl⟩
abbrev main_call1_v4 : Ref sig .tc := ⟨.hbm, 39, rfl⟩
abbrev main_call1_cst_0 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_v15 : Ref sig .tc := ⟨.hbm, 52, rfl⟩
abbrev main_call1_v16 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27_0 : Ref sig .tc := ⟨.hbm, 78, rfl⟩
abbrev main_v27_1 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42_0 : Ref sig .tc := ⟨.hbm, 94, rfl⟩
abbrev main_v42_1 : Ref sig .tc := ⟨.hbm, 95, rfl⟩
abbrev main_v42_2 : Ref sig .tc := ⟨.hbm, 96, rfl⟩
abbrev main_v42_3 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc2_stg0_0 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg5_1 : Ref sig .tc := ⟨.vmem, 50, rfl⟩
abbrev cc3_stg6_0 : Ref sig .tc := ⟨.vmem, 51, rfl⟩
abbrev cc3_stg6_1 : Ref sig .tc := ⟨.vmem, 52, rfl⟩
abbrev cc3_stg7_0 : Ref sig .tc := ⟨.vmem, 53, rfl⟩
abbrev cc3_stg7_1 : Ref sig .tc := ⟨.vmem, 54, rfl⟩
abbrev cc3_stg8_0 : Ref sig .tc := ⟨.vmem, 55, rfl⟩
abbrev cc3_stg8_1 : Ref sig .tc := ⟨.vmem, 56, rfl⟩
abbrev cc3_stg9_0 : Ref sig .tc := ⟨.vmem, 57, rfl⟩
abbrev cc3_stg9_1 : Ref sig .tc := ⟨.vmem, 58, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc2_sem0_0 : DmaSem sig := 29
abbrev cc2_sem1_0 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49
abbrev cc3_sem5_1 : DmaSem sig := 50
abbrev cc3_sem6_0 : DmaSem sig := 51
abbrev cc3_sem6_1 : DmaSem sig := 52
abbrev cc3_sem7_0 : DmaSem sig := 53
abbrev cc3_sem7_1 : DmaSem sig := 54
abbrev cc3_sem8_0 : DmaSem sig := 55
abbrev cc3_sem8_1 : DmaSem sig := 56
abbrev cc3_sem9_0 : DmaSem sig := 57
abbrev cc3_sem9_1 : DmaSem sig := 58

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S192x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![24], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S3x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S3x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x1x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4x32768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S3x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S192x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S192x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S3x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S192x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== KernelIdeal.lean ====
variable {F : FTy → Type} [FloatOps F] [Named F]
def κ : String → Option EReal := fun
  | "big" => some ⊤
  | _ => none
-- ==== ReferenceIdeal.lean ====
abbrev S4096x3 : Shape := ⟨2, ![4096, 3]⟩
abbrev S4096x2 : Shape := ⟨2, ![4096, 2]⟩
abbrev S3x256 : Shape := ⟨2, ![3, 256]⟩
abbrev S256 : Shape := ⟨1, ![256]⟩
abbrev S256x4 : Shape := ⟨2, ![256, 4]⟩
abbrev S4 : Shape := ⟨1, ![4]⟩
abbrev S4096x1 : Shape := ⟨2, ![4096, 1]⟩
abbrev S4096 : Shape := ⟨1, ![4096]⟩
abbrev S_ : Shape := ⟨0, ![]⟩
abbrev S63 : Shape := ⟨1, ![63]⟩
abbrev S1 : Shape := ⟨1, ![1]⟩
abbrev S64 : Shape := ⟨1, ![64]⟩
abbrev S1x64 : Shape := ⟨2, ![1, 64]⟩
abbrev S4096x64 : Shape := ⟨2, ![4096, 64]⟩
abbrev S4096x1x3 : Shape := ⟨3, ![4096, 1, 3]⟩
abbrev S4096x64x1 : Shape := ⟨3, ![4096, 64, 1]⟩
abbrev S4096x64x3 : Shape := ⟨3, ![4096, 64, 3]⟩
abbrev S4096x64x256 : Shape := ⟨3, ![4096, 64, 256]⟩
abbrev S1x1x256 : Shape := ⟨3, ![1, 1, 256]⟩
abbrev S4096x64x4 : Shape := ⟨3, ![4096, 64, 4]⟩
abbrev S1x1x4 : Shape := ⟨3, ![1, 1, 4]⟩
abbrev S4096x63 : Shape := ⟨2, ![4096, 63]⟩
abbrev S64x1 : Shape := ⟨2, ![64, 1]⟩
abbrev S64x64 : Shape := ⟨2, ![64, 64]⟩
abbrev S1x64x64 : Shape := ⟨3, ![1, 64, 64]⟩
abbrev S4096x1x64 : Shape := ⟨3, ![4096, 1, 64]⟩
abbrev S4096x64x64 : Shape := ⟨3, ![4096, 64, 64]⟩
abbrev S4096x64x32 : Shape := ⟨3, ![4096, 64, 32]⟩
abbrev S4096x64x16 : Shape := ⟨3, ![4096, 64, 16]⟩
abbrev S4096x64x8 : Shape := ⟨3, ![4096, 64, 8]⟩
abbrev S4096x64x2 : Shape := ⟨3, ![4096, 64, 2]⟩
abbrev S4096x65 : Shape := ⟨2, ![4096, 65]⟩
abbrev S127 : Shape := ⟨1, ![127]⟩
abbrev S128 : Shape := ⟨1, ![128]⟩
abbrev S4096x128 : Shape := ⟨2, ![4096, 128]⟩
abbrev S4096x1x65 : Shape := ⟨3, ![4096, 1, 65]⟩
abbrev S4096x128x1 : Shape := ⟨3, ![4096, 128, 1]⟩
abbrev S4096x128x65 : Shape := ⟨3, ![4096, 128, 65]⟩
abbrev S4096x192 : Shape := ⟨2, ![4096, 192]⟩
abbrev S4096x192x1 : Shape := ⟨3, ![4096, 192, 1]⟩
abbrev S4096x192x3 : Shape := ⟨3, ![4096, 192, 3]⟩
abbrev S4096x192x256 : Shape := ⟨3, ![4096, 192, 256]⟩
abbrev S4096x192x4 : Shape := ⟨3, ![4096, 192, 4]⟩
abbrev S4096x191 : Shape := ⟨2, ![4096, 191]⟩
abbrev S192 : Shape := ⟨1, ![192]⟩
abbrev S1x192 : Shape := ⟨2, ![1, 192]⟩
abbrev S192x1 : Shape := ⟨2, ![192, 1]⟩
abbrev S192x192 : Shape := ⟨2, ![192, 192]⟩
abbrev S1x192x192 : Shape := ⟨3, ![1, 192, 192]⟩
abbrev S4096x1x192 : Shape := ⟨3, ![4096, 1, 192]⟩
abbrev S4096x192x192 : Shape := ⟨3, ![4096, 192, 192]⟩
abbrev S4096x192x96 : Shape := ⟨3, ![4096, 192, 96]⟩
abbrev S4096x192x48 : Shape := ⟨3, ![4096, 192, 48]⟩
abbrev S4096x192x24 : Shape := ⟨3, ![4096, 192, 24]⟩
abbrev S4096x192x12 : Shape := ⟨3, ![4096, 192, 12]⟩
abbrev S4096x192x6 : Shape := ⟨3, ![4096, 192, 6]⟩

abbrev nBuf : Space → Nat
  | .hbm => 375
  | .vmem => 0
  | .smem => 0
  | _ => 0

abbrev hbmTy0_0 (i : Nat) : BufTy := match i % 128 with
  | 0 => ⟨S4096x3, .f32⟩
  | 1 => ⟨S4096x3, .f32⟩
  | 2 => ⟨S4096x2, .f32⟩
  | 3 => ⟨S3x256, .f32⟩
  | 4 => ⟨S256, .f32⟩
  | 5 => ⟨S256x4, .f32⟩
  | 6 => ⟨S4, .f32⟩
  | 7 => ⟨S4096x1, .f32⟩
  | 8 => ⟨S4096, .f32⟩
  | 9 => ⟨S4096x1, .f32⟩
  | 10 => ⟨S4096, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S63, .f32⟩
  | 19 => ⟨S_, .f32⟩
  | 20 => ⟨S63, .f32⟩
  | 21 => ⟨S63, .f32⟩
  | 22 => ⟨S1, .f32⟩
  | 23 => ⟨S_, .f32⟩
  | 24 => ⟨S63, .f32⟩
  | 25 => ⟨S63, .f32⟩
  | 26 => ⟨S63, .f32⟩
  | 27 => ⟨S63, .f32⟩
  | 28 => ⟨S1, .f32⟩
  | 29 => ⟨S63, .f32⟩
  | 30 => ⟨S63, .f32⟩
  | 31 => ⟨S63, .f32⟩
  | 32 => ⟨S1, .f32⟩
  | 33 => ⟨S64, .f32⟩
  | 34 => ⟨S4096x1, .f32⟩
  | 35 => ⟨S_, .f32⟩
  | 36 => ⟨S64, .f32⟩
  | 37 => ⟨S64, .f32⟩
  | 38 => ⟨S1x64, .f32⟩
  | 39 => ⟨S4096x64, .f32⟩
  | 40 => ⟨S4096x64, .f32⟩
  | 41 => ⟨S4096x64, .f32⟩
  | 42 => ⟨S4096x1, .f32⟩
  | 43 => ⟨S1x64, .f32⟩
  | 44 => ⟨S4096x64, .f32⟩
  | 45 => ⟨S4096x64, .f32⟩
  | 46 => ⟨S4096x64, .f32⟩
  | 47 => ⟨S4096x64, .f32⟩
  | 48 => ⟨S4096x1x3, .f32⟩
  | 49 => ⟨S4096x1x3, .f32⟩
  | 50 => ⟨S4096x64x1, .f32⟩
  | 51 => ⟨S4096x64x3, .f32⟩
  | 52 => ⟨S4096x64x3, .f32⟩
  | 53 => ⟨S4096x64x3, .f32⟩
  | 54 => ⟨S4096x64x3, .f32⟩
  | 55 => ⟨S4096x64x3, .f32⟩
  | 56 => ⟨S4096x64x256, .f32⟩
  | 57 => ⟨S1x1x256, .f32⟩
  | 58 => ⟨S4096x64x256, .f32⟩
  | 59 => ⟨S4096x64x256, .f32⟩
  | 60 => ⟨S_, .f32⟩
  | 61 => ⟨S4096x64x256, .f32⟩
  | 62 => ⟨S4096x64x256, .f32⟩
  | 63 => ⟨S4096x64x4, .f32⟩
  | 64 => ⟨S1x1x4, .f32⟩
  | 65 => ⟨S4096x64x4, .f32⟩
  | 66 => ⟨S4096x64x4, .f32⟩
  | 67 => ⟨S4096x63, .f32⟩
  | 68 => ⟨S4096x63, .f32⟩
  | 69 => ⟨S4096x63, .f32⟩
  | 70 => ⟨S4096x1, .f32⟩
  | 71 => ⟨S_, .f32⟩
  | 72 => ⟨S4096x1, .f32⟩
  | 73 => ⟨S4096x64, .f32⟩
  | 74 => ⟨S4096x3, .f32⟩
  | 75 => ⟨S_, .f32⟩
  | 76 => ⟨S4096, .f32⟩
  | 77 => ⟨S4096x1, .f32⟩
  | 78 => ⟨S4096x1, .f32⟩
  | 79 => ⟨S4096x64, .f32⟩
  | 80 => ⟨S4096x64, .f32⟩
  | 81 => ⟨S4096x64x3, .f32⟩
  | 82 => ⟨S4096x64x3, .f32⟩
  | 83 => ⟨S4096x64x3, .f32⟩
  | 84 => ⟨S_, .f32⟩
  | 85 => ⟨S4096x64x3, .f32⟩
  | 86 => ⟨S4096x64x3, .f32⟩
  | 87 => ⟨S_, .f32⟩
  | 88 => ⟨S4096x64x3, .f32⟩
  | 89 => ⟨S4096x64x3, .f32⟩
  | 90 => ⟨S4096x64x1, .f32⟩
  | 91 => ⟨S4096x64, .f32⟩
  | 92 => ⟨S_, .f32⟩
  | 93 => ⟨S4096x64, .f32⟩
  | 94 => ⟨S4096x64, .f32⟩
  | 95 => ⟨S4096x64, .f32⟩
  | 96 => ⟨S4096x64, .f32⟩
  | 97 => ⟨S4096x64, .f32⟩
  | 98 => ⟨S_, .f32⟩
  | 99 => ⟨S4096x64, .f32⟩
  | 100 => ⟨S4096x64, .f32⟩
  | 101 => ⟨S_, .f32⟩
  | 102 => ⟨S4096x64, .f32⟩
  | 103 => ⟨S4096x64, .f32⟩
  | 104 => ⟨S_, .f32⟩
  | 105 => ⟨S4096x64, .f32⟩
  | 106 => ⟨S4096x64, .f32⟩
  | 107 => ⟨S64, .i32⟩
  | 108 => ⟨S1x64, .i32⟩
  | 109 => ⟨S64, .i32⟩
  | 110 => ⟨S64x1, .i32⟩
  | 111 => ⟨S64x64, .i32⟩
  | 112 => ⟨S64x64, .i32⟩
  | 113 => ⟨S64x64, .i1⟩
  | 114 => ⟨S1x64x64, .i1⟩
  | 115 => ⟨S4096x1x64, .f32⟩
  | 116 => ⟨S_, .f32⟩
  | 117 => ⟨S_, .f32⟩
  | 118 => ⟨S4096x64x64, .i1⟩
  | 119 => ⟨S4096x64x64, .f32⟩
  | 120 => ⟨S4096x64x64, .f32⟩
  | 121 => ⟨S4096x64x64, .f32⟩
  | 122 => ⟨S4096x64x32, .f32⟩
  | 123 => ⟨S4096x64x32, .f32⟩
  | 124 => ⟨S4096x64x32, .f32⟩
  | 125 => ⟨S4096x64x16, .f32⟩
  | 126 => ⟨S4096x64x16, .f32⟩
  | 127 => ⟨S4096x64x16, .f32⟩
  | _ => ⟨S4096x3, .f32⟩

abbrev hbmTy0_1 (i : Nat) : BufTy := match i % 128 with
  | 0 => ⟨S4096x64x8, .f32⟩
  | 1 => ⟨S4096x64x8, .f32⟩
  | 2 => ⟨S4096x64x8, .f32⟩
  | 3 => ⟨S4096x64x4, .f32⟩
  | 4 => ⟨S4096x64x4, .f32⟩
  | 5 => ⟨S4096x64x4, .f32⟩
  | 6 => ⟨S4096x64x2, .f32⟩
  | 7 => ⟨S4096x64x2, .f32⟩
  | 8 => ⟨S4096x64x2, .f32⟩
  | 9 => ⟨S4096x64x1, .f32⟩
  | 10 => ⟨S4096x64x1, .f32⟩
  | 11 => ⟨S4096x64x1, .f32⟩
  | 12 => ⟨S4096x64, .f32⟩
  | 13 => ⟨S4096x64, .f32⟩
  | 14 => ⟨S4096x64x1, .f32⟩
  | 15 => ⟨S4096x64x3, .f32⟩
  | 16 => ⟨S4096x64x3, .f32⟩
  | 17 => ⟨S_, .f32⟩
  | 18 => ⟨S4096x3, .f32⟩
  | 19 => ⟨S4096x64, .f32⟩
  | 20 => ⟨S_, .f32⟩
  | 21 => ⟨S4096, .f32⟩
  | 22 => ⟨S_, .f32⟩
  | 23 => ⟨S4096, .f32⟩
  | 24 => ⟨S_, .f32⟩
  | 25 => ⟨S4096x64, .f32⟩
  | 26 => ⟨S4096x64, .f32⟩
  | 27 => ⟨S_, .f32⟩
  | 28 => ⟨S4096, .f32⟩
  | 29 => ⟨S4096x1, .f32⟩
  | 30 => ⟨S4096x64, .f32⟩
  | 31 => ⟨S4096x64, .f32⟩
  | 32 => ⟨S_, .f32⟩
  | 33 => ⟨S_, .f32⟩
  | 34 => ⟨S4096x64, .f32⟩
  | 35 => ⟨S4096x1, .f32⟩
  | 36 => ⟨S_, .f32⟩
  | 37 => ⟨S4096x1, .f32⟩
  | 38 => ⟨S4096x65, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S127, .f32⟩
  | 47 => ⟨S_, .f32⟩
  | 48 => ⟨S127, .f32⟩
  | 49 => ⟨S127, .f32⟩
  | 50 => ⟨S1, .f32⟩
  | 51 => ⟨S_, .f32⟩
  | 52 => ⟨S127, .f32⟩
  | 53 => ⟨S127, .f32⟩
  | 54 => ⟨S127, .f32⟩
  | 55 => ⟨S127, .f32⟩
  | 56 => ⟨S1, .f32⟩
  | 57 => ⟨S127, .f32⟩
  | 58 => ⟨S127, .f32⟩
  | 59 => ⟨S127, .f32⟩
  | 60 => ⟨S1, .f32⟩
  | 61 => ⟨S128, .f32⟩
  | 62 => ⟨S4096x128, .f32⟩
  | 63 => ⟨S4096x1x65, .f32⟩
  | 64 => ⟨S4096x128x1, .f32⟩
  | 65 => ⟨S4096x128x65, .f32⟩
  | 66 => ⟨S4096x128x65, .f32⟩
  | 67 => ⟨S4096x128x65, .i1⟩
  | 68 => ⟨S4096x128x65, .i32⟩
  | 69 => ⟨S_, .i32⟩
  | 70 => ⟨S4096x128, .i32⟩
  | 71 => ⟨S_, .i32⟩
  | 72 => ⟨S4096x128, .i32⟩
  | 73 => ⟨S4096x128, .i32⟩
  | 74 => ⟨S_, .i32⟩
  | 75 => ⟨S4096x128, .i32⟩
  | 76 => ⟨S4096x128, .i32⟩
  | 77 => ⟨S_, .i32⟩
  | 78 => ⟨S4096x128, .i32⟩
  | 79 => ⟨S4096x128, .i32⟩
  | 80 => ⟨S_, .i32⟩
  | 81 => ⟨S4096x128, .i32⟩
  | 82 => ⟨S4096x128, .i1⟩
  | 83 => ⟨S_, .i32⟩
  | 84 => ⟨S4096x128, .i32⟩
  | 85 => ⟨S4096x128, .i32⟩
  | 86 => ⟨S4096x128, .i32⟩
  | 87 => ⟨S4096x128x1, .i32⟩
  | 88 => ⟨S4096x128, .f32⟩
  | 89 => ⟨S_, .i32⟩
  | 90 => ⟨S4096x128, .i32⟩
  | 91 => ⟨S4096x128, .i1⟩
  | 92 => ⟨S_, .i32⟩
  | 93 => ⟨S4096x128, .i32⟩
  | 94 => ⟨S4096x128, .i32⟩
  | 95 => ⟨S4096x128, .i32⟩
  | 96 => ⟨S4096x128x1, .i32⟩
  | 97 => ⟨S4096x128, .f32⟩
  | 98 => ⟨S_, .i32⟩
  | 99 => ⟨S4096x128, .i32⟩
  | 100 => ⟨S4096x128, .i32⟩
  | 101 => ⟨S_, .i32⟩
  | 102 => ⟨S4096x128, .i32⟩
  | 103 => ⟨S4096x128, .i1⟩
  | 104 => ⟨S_, .i32⟩
  | 105 => ⟨S4096x128, .i32⟩
  | 106 => ⟨S4096x128, .i32⟩
  | 107 => ⟨S4096x128, .i32⟩
  | 108 => ⟨S4096x128x1, .i32⟩
  | 109 => ⟨S4096x128, .f32⟩
  | 110 => ⟨S_, .i32⟩
  | 111 => ⟨S4096x128, .i32⟩
  | 112 => ⟨S4096x128, .i32⟩
  | 113 => ⟨S_, .i32⟩
  | 114 => ⟨S4096x128, .i32⟩
  | 115 => ⟨S4096x128, .i1⟩
  | 116 => ⟨S_, .i32⟩
  | 117 => ⟨S4096x128, .i32⟩
  | 118 => ⟨S4096x128, .i32⟩
  | 119 => ⟨S4096x128, .i32⟩
  | 120 => ⟨S4096x128x1, .i32⟩
  | 121 => ⟨S4096x128, .f32⟩
  | 122 => ⟨S4096x128, .f32⟩
  | 123 => ⟨S_, .f32⟩
  | 124 => ⟨S4096x128, .f32⟩
  | 125 => ⟨S4096x128, .i1⟩
  | 126 => ⟨S_, .f32⟩
  | 127 => ⟨S4096x128, .f32⟩
  | _ => ⟨S4096x3, .f32⟩

abbrev hbmTy0_2 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S4096x128, .f32⟩
  | 5 => ⟨S4096x128, .f32⟩
  | 6 => ⟨S4096x192, .f32⟩
  | 7 => ⟨S4096x192, .f32⟩
  | 8 => ⟨S4096x1x3, .f32⟩
  | 9 => ⟨S4096x1x3, .f32⟩
  | 10 => ⟨S4096x192x1, .f32⟩
  | 11 => ⟨S4096x192x3, .f32⟩
  | 12 => ⟨S4096x192x3, .f32⟩
  | 13 => ⟨S4096x192x3, .f32⟩
  | 14 => ⟨S4096x192x3, .f32⟩
  | 15 => ⟨S4096x192x3, .f32⟩
  | 16 => ⟨S4096x192x256, .f32⟩
  | 17 => ⟨S1x1x256, .f32⟩
  | 18 => ⟨S4096x192x256, .f32⟩
  | 19 => ⟨S4096x192x256, .f32⟩
  | 20 => ⟨S_, .f32⟩
  | 21 => ⟨S4096x192x256, .f32⟩
  | 22 => ⟨S4096x192x256, .f32⟩
  | 23 => ⟨S4096x192x4, .f32⟩
  | 24 => ⟨S1x1x4, .f32⟩
  | 25 => ⟨S4096x192x4, .f32⟩
  | 26 => ⟨S4096x192x4, .f32⟩
  | 27 => ⟨S4096x191, .f32⟩
  | 28 => ⟨S4096x191, .f32⟩
  | 29 => ⟨S4096x191, .f32⟩
  | 30 => ⟨S4096x1, .f32⟩
  | 31 => ⟨S_, .f32⟩
  | 32 => ⟨S4096x1, .f32⟩
  | 33 => ⟨S4096x192, .f32⟩
  | 34 => ⟨S4096x3, .f32⟩
  | 35 => ⟨S_, .f32⟩
  | 36 => ⟨S4096, .f32⟩
  | 37 => ⟨S4096x1, .f32⟩
  | 38 => ⟨S4096x1, .f32⟩
  | 39 => ⟨S4096x192, .f32⟩
  | 40 => ⟨S4096x192, .f32⟩
  | 41 => ⟨S4096x192x3, .f32⟩
  | 42 => ⟨S4096x192x3, .f32⟩
  | 43 => ⟨S4096x192x3, .f32⟩
  | 44 => ⟨S_, .f32⟩
  | 45 => ⟨S4096x192x3, .f32⟩
  | 46 => ⟨S4096x192x3, .f32⟩
  | 47 => ⟨S_, .f32⟩
  | 48 => ⟨S4096x192x3, .f32⟩
  | 49 => ⟨S4096x192x3, .f32⟩
  | 50 => ⟨S4096x192x1, .f32⟩
  | 51 => ⟨S4096x192, .f32⟩
  | 52 => ⟨S_, .f32⟩
  | 53 => ⟨S4096x192, .f32⟩
  | 54 => ⟨S4096x192, .f32⟩
  | 55 => ⟨S4096x192, .f32⟩
  | 56 => ⟨S4096x192, .f32⟩
  | 57 => ⟨S4096x192, .f32⟩
  | 58 => ⟨S_, .f32⟩
  | 59 => ⟨S4096x192, .f32⟩
  | 60 => ⟨S4096x192, .f32⟩
  | 61 => ⟨S_, .f32⟩
  | 62 => ⟨S4096x192, .f32⟩
  | 63 => ⟨S4096x192, .f32⟩
  | 64 => ⟨S_, .f32⟩
  | 65 => ⟨S4096x192, .f32⟩
  | 66 => ⟨S4096x192, .f32⟩
  | 67 => ⟨S192, .i32⟩
  | 68 => ⟨S1x192, .i32⟩
  | 69 => ⟨S192, .i32⟩
  | 70 => ⟨S192x1, .i32⟩
  | 71 => ⟨S192x192, .i32⟩
  | 72 => ⟨S192x192, .i32⟩
  | 73 => ⟨S192x192, .i1⟩
  | 74 => ⟨S1x192x192, .i1⟩
  | 75 => ⟨S4096x1x192, .f32⟩
  | 76 => ⟨S_, .f32⟩
  | 77 => ⟨S_, .f32⟩
  | 78 => ⟨S4096x192x192, .i1⟩
  | 79 => ⟨S4096x192x192, .f32⟩
  | 80 => ⟨S4096x192x192, .f32⟩
  | 81 => ⟨S4096x192x192, .f32⟩
  | 82 => ⟨S4096x192x96, .f32⟩
  | 83 => ⟨S4096x192x96, .f32⟩
  | 84 => ⟨S4096x192x96, .f32⟩
  | 85 => ⟨S4096x192x48, .f32⟩
  | 86 => ⟨S4096x192x48, .f32⟩
  | 87 => ⟨S4096x192x48, .f32⟩
  | 88 => ⟨S4096x192x24, .f32⟩
  | 89 => ⟨S4096x192x24, .f32⟩
  | 90 => ⟨S4096x192x24, .f32⟩
  | 91 => ⟨S4096x192x12, .f32⟩
  | 92 => ⟨S4096x192x12, .f32⟩
  | 93 => ⟨S4096x192x12, .f32⟩
  | 94 => ⟨S4096x192x6, .f32⟩
  | 95 => ⟨S4096x192x6, .f32⟩
  | 96 => ⟨S4096x192x6, .f32⟩
  | 97 => ⟨S4096x192x3, .f32⟩
  | 98 => ⟨S4096x192x3, .f32⟩
  | 99 => ⟨S4096x192x3, .f32⟩
  | 100 => ⟨S4096x192x1, .f32⟩
  | 101 => ⟨S4096x192, .f32⟩
  | 102 => ⟨S4096x192x1, .f32⟩
  | 103 => ⟨S4096x192, .f32⟩
  | 104 => ⟨S4096x192, .f32⟩
  | 105 => ⟨S4096x192x1, .f32⟩
  | 106 => ⟨S4096x192, .f32⟩
  | 107 => ⟨S4096x192, .f32⟩
  | 108 => ⟨S4096x192, .f32⟩
  | 109 => ⟨S4096x192x1, .f32⟩
  | 110 => ⟨S4096x192x3, .f32⟩
  | 111 => ⟨S4096x192x3, .f32⟩
  | 112 => ⟨S_, .f32⟩
  | 113 => ⟨S4096x3, .f32⟩
  | 114 => ⟨S4096x192, .f32⟩
  | 115 => ⟨S_, .f32⟩
  | 116 => ⟨S4096, .f32⟩
  | 117 => ⟨S_, .f32⟩
  | 118 => ⟨S4096, .f32⟩
  | _ => ⟨S4096x3, .f32⟩

abbrev hbmTy (i : Nat) : BufTy := match i / 128 with
  | 0 => hbmTy0_0 i
  | 1 => hbmTy0_1 i
  | 2 => hbmTy0_2 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v4 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_3 : Ref sig .tc := ⟨.hbm, 71, rfl⟩
abbrev main_v40 : Ref sig .tc := ⟨.hbm, 72, rfl⟩
abbrev main_v41 : Ref sig .tc := ⟨.hbm, 73, rfl⟩
abbrev main_call1_v0 : Ref sig .tc := ⟨.hbm, 74, rfl⟩
abbrev main_call1_cst : Ref sig .tc := ⟨.hbm, 75, rfl⟩
abbrev main_call1_v1 : Ref sig .tc := ⟨.hbm, 76, rfl⟩
abbrev main_call1_v2 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_cst_5 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_6 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_7 : Ref sig .tc := ⟨.hbm, 98, rfl⟩
abbrev main_v59 : Ref sig .tc := ⟨.hbm, 99, rfl⟩
abbrev main_v60 : Ref sig .tc := ⟨.hbm, 100, rfl⟩
abbrev main_cst_8 : Ref sig .tc := ⟨.hbm, 101, rfl⟩
abbrev main_v61 : Ref sig .tc := ⟨.hbm, 102, rfl⟩
abbrev main_v62 : Ref sig .tc := ⟨.hbm, 103, rfl⟩
abbrev main_cst_9 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_10 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_11 : Ref sig .tc := ⟨.hbm, 145, rfl⟩
abbrev main_v98 : Ref sig .tc := ⟨.hbm, 146, rfl⟩
abbrev main_v99 : Ref sig .tc := ⟨.hbm, 147, rfl⟩
abbrev main_cst_12 : Ref sig .tc := ⟨.hbm, 148, rfl⟩
abbrev main_v100 : Ref sig .tc := ⟨.hbm, 149, rfl⟩
abbrev main_cst_13 : Ref sig .tc := ⟨.hbm, 150, rfl⟩
abbrev main_v101 : Ref sig .tc := ⟨.hbm, 151, rfl⟩
abbrev main_cst_14 : Ref sig .tc := ⟨.hbm, 152, rfl⟩
abbrev main_v102 : Ref sig .tc := ⟨.hbm, 153, rfl⟩
abbrev main_v103 : Ref sig .tc := ⟨.hbm, 154, rfl⟩
abbrev main_cst_15 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_call3_call0_cst : Ref sig .tc := ⟨.hbm, 160, rfl⟩
abbrev main_call3_call0_v0 : Ref sig .tc := ⟨.hbm, 161, rfl⟩
abbrev main_v108 : Ref sig .tc := ⟨.hbm, 162, rfl⟩
abbrev main_v109 : Ref sig .tc := ⟨.hbm, 163, rfl⟩
abbrev main_cst_16 : Ref sig .tc := ⟨.hbm, 164, rfl⟩
abbrev main_v110 : Ref sig .tc := ⟨.hbm, 165, rfl⟩
abbrev main_v111 : Ref sig .tc := ⟨.hbm, 166, rfl⟩
abbrev main_cst_17 : Ref sig .tc := ⟨.hbm, 167, rfl⟩
abbrev main_cst_18 : Ref sig .tc := ⟨.hbm, 168, rfl⟩
abbrev main_call4_v0 : Ref sig .tc := ⟨.hbm, 169, rfl⟩
abbrev main_call4_v1 : Ref sig .tc := ⟨.hbm, 170, rfl⟩
abbrev main_call4_v2 : Ref sig .tc := ⟨.hbm, 171, rfl⟩
abbrev main_call4_cst : Ref sig .tc := ⟨.hbm, 172, rfl⟩
abbrev main_call4_v3 : Ref sig .tc := ⟨.hbm, 173, rfl⟩
abbrev main_call4_v4 : Ref sig .tc := ⟨.hbm, 174, rfl⟩
abbrev main_call4_cst_0 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_cst_1 : Ref sig .tc := ⟨.hbm, 179, rfl⟩
abbrev main_call4_v8 : Ref sig .tc := ⟨.hbm, 180, rfl⟩
abbrev main_call4_v9 : Ref sig .tc := ⟨.hbm, 181, rfl⟩
abbrev main_call4_v10 : Ref sig .tc := ⟨.hbm, 182, rfl⟩
abbrev main_call4_v11 : Ref sig .tc := ⟨.hbm, 183, rfl⟩
abbrev main_call4_v12 : Ref sig .tc := ⟨.hbm, 184, rfl⟩
abbrev main_call4_v13 : Ref sig .tc := ⟨.hbm, 185, rfl⟩
abbrev main_call4_v14 : Ref sig .tc := ⟨.hbm, 186, rfl⟩
abbrev main_call4_v15 : Ref sig .tc := ⟨.hbm, 187, rfl⟩
abbrev main_call4_v16 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_c : Ref sig .tc := ⟨.hbm, 197, rfl⟩
abbrev main_v120 : Ref sig .tc := ⟨.hbm, 198, rfl⟩
abbrev main_c_19 : Ref sig .tc := ⟨.hbm, 199, rfl⟩
abbrev main_v121 : Ref sig .tc := ⟨.hbm, 200, rfl⟩
abbrev main_v122 : Ref sig .tc := ⟨.hbm, 201, rfl⟩
abbrev main_c_20 : Ref sig .tc := ⟨.hbm, 202, rfl⟩
abbrev main_v123 : Ref sig .tc := ⟨.hbm, 203, rfl⟩
abbrev main_v124 : Ref sig .tc := ⟨.hbm, 204, rfl⟩
abbrev main_c_21 : Ref sig .tc := ⟨.hbm, 205, rfl⟩
abbrev main_v125 : Ref sig .tc := ⟨.hbm, 206, rfl⟩
abbrev main_v126 : Ref sig .tc := ⟨.hbm, 207, rfl⟩
abbrev main_call5_c : Ref sig .tc := ⟨.hbm, 208, rfl⟩
abbrev main_call5_v0 : Ref sig .tc := ⟨.hbm, 209, rfl⟩
abbrev main_call5_v1 : Ref sig .tc := ⟨.hbm, 210, rfl⟩
abbrev main_call5_c_0 : Ref sig .tc := ⟨.hbm, 211, rfl⟩
abbrev main_call5_v2 : Ref sig .tc := ⟨.hbm, 212, rfl⟩
abbrev main_call5_v3 : Ref sig .tc := ⟨.hbm, 213, rfl⟩
abbrev main_call5_v4 : Ref sig .tc := ⟨.hbm, 214, rfl⟩
abbrev main_call5_v5 : Ref sig .tc := ⟨.hbm, 215, rfl⟩
abbrev main_v127 : Ref sig .tc := ⟨.hbm, 216, rfl⟩
abbrev main_call6_c : Ref sig .tc := ⟨.hbm, 217, rfl⟩
abbrev main_call6_v0 : Ref sig .tc := ⟨.hbm, 218, rfl⟩
abbrev main_call6_v1 : Ref sig .tc := ⟨.hbm, 219, rfl⟩
abbrev main_call6_c_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_v128 : Ref sig .tc := ⟨.hbm, 225, rfl⟩
abbrev main_c_22 : Ref sig .tc := ⟨.hbm, 226, rfl⟩
abbrev main_v129 : Ref sig .tc := ⟨.hbm, 227, rfl⟩
abbrev main_v130 : Ref sig .tc := ⟨.hbm, 228, rfl⟩
abbrev main_call7_c : Ref sig .tc := ⟨.hbm, 229, rfl⟩
abbrev main_call7_v0 : Ref sig .tc := ⟨.hbm, 230, rfl⟩
abbrev main_call7_v1 : Ref sig .tc := ⟨.hbm, 231, rfl⟩
abbrev main_call7_c_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_v131 : Ref sig .tc := ⟨.hbm, 237, rfl⟩
abbrev main_c_23 : Ref sig .tc := ⟨.hbm, 238, rfl⟩
abbrev main_v132 : Ref sig .tc := ⟨.hbm, 239, rfl⟩
abbrev main_v133 : Ref sig .tc := ⟨.hbm, 240, rfl⟩
abbrev main_call8_c : Ref sig .tc := ⟨.hbm, 241, rfl⟩
abbrev main_call8_v0 : Ref sig .tc := ⟨.hbm, 242, rfl⟩
abbrev main_call8_v1 : Ref sig .tc := ⟨.hbm, 243, rfl⟩
abbrev main_call8_c_0 : Ref sig .tc := ⟨.hbm, 244, rfl⟩
abbrev main_call8_v2 : Ref sig .tc := ⟨.hbm, 245, rfl⟩
abbrev main_call8_v3 : Ref sig .tc := ⟨.hbm, 246, rfl⟩
abbrev main_call8_v4 : Ref sig .tc := ⟨.hbm, 247, rfl⟩
abbrev main_call8_v5 : Ref sig .tc := ⟨.hbm, 248, rfl⟩
abbrev main_v134 : Ref sig .tc := ⟨.hbm, 249, rfl⟩
abbrev main_v135 : Ref sig .tc := ⟨.hbm, 250, rfl⟩
abbrev main_cst_24 : Ref sig .tc := ⟨.hbm, 251, rfl⟩
abbrev main_v136 : Ref sig .tc := ⟨.hbm, 252, rfl⟩
abbrev main_v137 : Ref sig .tc := ⟨.hbm, 253, rfl⟩
abbrev main_cst_25 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_cst_26 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_cst_27 : Ref sig .tc := ⟨.hbm, 287, rfl⟩
abbrev main_v169 : Ref sig .tc := ⟨.hbm, 288, rfl⟩
abbrev main_v170 : Ref sig .tc := ⟨.hbm, 289, rfl⟩
abbrev main_call11_v0 : Ref sig .tc := ⟨.hbm, 290, rfl⟩
abbrev main_call11_cst : Ref sig .tc := ⟨.hbm, 291, rfl⟩
abbrev main_call11_v1 : Ref sig .tc := ⟨.hbm, 292, rfl⟩
abbrev main_call11_v2 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_v175 : Ref sig .tc := ⟨.hbm, 298, rfl⟩
abbrev main_v176 : Ref sig .tc := ⟨.hbm, 299, rfl⟩
abbrev main_cst_28 : Ref sig .tc := ⟨.hbm, 300, rfl⟩
abbrev main_v177 : Ref sig .tc := ⟨.hbm, 301, rfl⟩
abbrev main_v178 : Ref sig .tc := ⟨.hbm, 302, rfl⟩
abbrev main_cst_29 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_cst_30 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_cst_31 : Ref sig .tc := ⟨.hbm, 314, rfl⟩
abbrev main_v188 : Ref sig .tc := ⟨.hbm, 315, rfl⟩
abbrev main_v189 : Ref sig .tc := ⟨.hbm, 316, rfl⟩
abbrev main_cst_32 : Ref sig .tc := ⟨.hbm, 317, rfl⟩
abbrev main_v190 : Ref sig .tc := ⟨.hbm, 318, rfl⟩
abbrev main_v191 : Ref sig .tc := ⟨.hbm, 319, rfl⟩
abbrev main_cst_33 : Ref sig .tc := ⟨.hbm, 320, rfl⟩
abbrev main_v192 : Ref sig .tc := ⟨.hbm, 321, rfl⟩
abbrev main_v193 : Ref sig .tc := ⟨.hbm, 322, rfl⟩
abbrev main_v194 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_cst_34 : Ref sig .tc := ⟨.hbm, 332, rfl⟩
abbrev main_call12_v0 : Ref sig .tc := ⟨.hbm, 333, rfl⟩
abbrev main_call12_v1 : Ref sig .tc := ⟨.hbm, 334, rfl⟩
abbrev main_call12_v2 : Ref sig .tc := ⟨.hbm, 335, rfl⟩
abbrev main_call12_v3 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_v226 : Ref sig .tc := ⟨.hbm, 360, rfl⟩
abbrev main_v227 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_cst_35 : Ref sig .tc := ⟨.hbm, 368, rfl⟩
abbrev main_v234 : Ref sig .tc := ⟨.hbm, 369, rfl⟩
abbrev main_v235 : Ref sig .tc := ⟨.hbm, 370, rfl⟩
abbrev main_cst_36 : Ref sig .tc := ⟨.hbm, 371, rfl⟩
abbrev main_v236 : Ref sig .tc := ⟨.hbm, 372, rfl⟩
abbrev main_cst_37 : Ref sig .tc := ⟨.hbm, 373, rfl⟩
abbrev main_v237 : Ref sig .tc := ⟨.hbm, 374, rfl⟩

abbrev nD : Nat := 1
abbrev τ : Topo := Topo.v7x

variable {F : FTy → Type} [FloatOps F]
-- ==== Proof.Render.lean ====
/- Volume rendering along one ray, over the extended reals: the attenuation of a segment, the weight of a sample, the
   colour that the weights compose, and the laws by which a sum of logarithms under one exponential is the product of
   the factors. No program is mentioned here. -/
module

public import Idealize.ShloMosaic.PureOps.Ideal.Laws
public import Idealize.ShloMosaic.Lib.IdealHost
public import Mathlib.Algebra.BigOperators.Fin

@[expose] public section

noncomputable section

namespace Cert.Nerf

open Idealize.ShloMosaic

/-! ## The quantities -/

/-- The small number that keeps every factor of a product of transmittances positive. -/
def tiny : EReal := Ideal.ofBits .f32 0x2EDBE6FF#32

/-- The length that stands for the segment behind the last sample. -/
def farGap : EReal := Ideal.ofBits .f32 0x501502F9#32

/-- The distance from a sample to the next one; behind the last sample, `farGap`. -/
def gap {n : ℕ} (z : Fin n → EReal) (i : Fin n) : EReal :=
  if h : i.val + 1 < n then z ⟨i.val + 1, h⟩ - z i else farGap

/-- The share of light that the segment behind sample `i` lets through, at density `σ` and ray length `len`. -/
def atten {n : ℕ} (σ z : Fin n → EReal) (len : EReal) (i : Fin n) : EReal :=
  Ideal.exp (-(max (σ i) 0) * (gap z i * len))

/-- The product of the factors before `i`. -/
def before {n : ℕ} (f : Fin n → EReal) (i : Fin n) : EReal := ∏ j : Fin n, if j < i then f j else 1

/-- The weight of sample `i`: the share of light its segment absorbs, of what the earlier segments let through. -/
def weight {n : ℕ} (σ z : Fin n → EReal) (len : EReal) (i : Fin n) : EReal :=
  (1 - atten σ z len i) * before (fun j => atten σ z len j + tiny) i

/-- The logistic function, as a quotient. -/
def squash (x : EReal) : EReal := Ideal.div 1 (1 + Ideal.exp (-x))

/-- One colour channel of the ray. -/
def colour {n : ℕ} (w raw : Fin n → EReal) : EReal := ∑ i, w i * squash (raw i)

/-! ## The exponential and the logarithm -/

theorem exp_nonneg (x : EReal) : 0 ≤ Ideal.exp x := by
  induction x with
  | bot => simp
  | top => simp
  | coe r => rw [Ideal.exp_coe]; exact_mod_cast (Real.exp_pos r).le

theorem exp_add (a b : EReal) : Ideal.exp (a + b) = Ideal.exp a * Ideal.exp b := by
  induction a with
  | bot => simp
  | top =>
    induction b with
    | bot => simp
    | top => simp
    | coe r =>
      rw [EReal.top_add_coe, Ideal.exp_top, Ideal.exp_coe, EReal.top_mul_coe_of_pos (Real.exp_pos r)]
  | coe s =>
    induction b with
    | bot => simp
    | top =>
      rw [EReal.coe_add_top, Ideal.exp_top, Ideal.exp_coe, EReal.coe_mul_top_of_pos (Real.exp_pos s)]
    | coe r => rw [← EReal.coe_add, Ideal.exp_coe, Ideal.exp_coe, Ideal.exp_coe, Real.exp_add, EReal.coe_mul]

theorem exp_zero : Ideal.exp 0 = 1 := by
  rw [← EReal.coe_zero, Ideal.exp_coe, Real.exp_zero, EReal.coe_one]

theorem exp_log {a : EReal} (h : 0 < a) : Ideal.exp (Ideal.log a) = a := by
  induction a with
  | bot => simp at h
  | top => simp
  | coe r =>
    have hr : 0 < r := by exact_mod_cast h
    rw [Ideal.log_coe, if_neg (not_le.mpr hr), Ideal.exp_coe, Real.exp_log hr]

theorem exp_sum {ι : Type*} (s : Finset ι) (f : ι → EReal) : Ideal.exp (∑ j ∈ s, f j) = ∏ j ∈ s, Ideal.exp (f j) := by
  classical
  induction s using Finset.induction_on with
  | empty => simp [exp_zero]
  | insert a s ha ih => rw [Finset.sum_insert ha, Finset.prod_insert ha, exp_add, ih]

/-- Twice the complement of a number that is not negative is that number again, at infinity too. -/
theorem one_sub_one_sub {e : EReal} (h : 0 ≤ e) : 1 - (1 - e) = e := by
  induction e with
  | bot => simp at h
  | top => simp [sub_eq_add_neg, ← EReal.coe_one, EReal.coe_add_top]
  | coe r =>
    rw [← EReal.coe_one, ← EReal.coe_sub, ← EReal.coe_sub, sub_sub_cancel]

theorem tiny_eq : tiny = ((14411519 / 144115188075855872 : ℝ) : EReal) := by
  unfold tiny
  simp [Ideal.ofBits, Ideal.ieee, -EReal.coe_mul]; norm_num

theorem tiny_pos : 0 < tiny := by
  rw [tiny_eq]
  exact EReal.coe_pos.mpr (by norm_num)

theorem atten_nonneg {n : ℕ} (σ z : Fin n → EReal) (len : EReal) (i : Fin n) : 0 ≤ atten σ z len i := exp_nonneg _

theorem factor_pos {n : ℕ} (σ z : Fin n → EReal) (len : EReal) (i : Fin n) : 0 < atten σ z len i + tiny :=
  lt_of_lt_of_le tiny_pos (by simpa using add_le_add_left (atten_nonneg σ z len i) tiny)

/-- The exponential of the logarithms' sum over the earlier samples is the product of the earlier factors. -/
theorem exp_sum_log {n : ℕ} (f : Fin n → EReal) (hf : ∀ j, 0 < f j) (i : Fin n) :
    Ideal.exp (∑ j : Fin n, if j < i then Ideal.log (f j) else 0) = before f i := by
  rw [exp_sum]
  refine Finset.prod_congr rfl fun j _ => ?_
  split
  · exact exp_log (hf j)
  · exact exp_zero

/-! ## Sums by doubling shifts -/

/-- One step of a running sum by doubling shifts: every entry takes the entry `k` places before it, if there is one. -/
def shiftAdd {n : ℕ} (k : ℕ) (x : Fin n → EReal) (i : Fin n) : EReal :=
  x i + if i.val < k then 0 else x ⟨i.val - k, by omega⟩

/-- The sum of the last `k` entries up to and including entry `i`. -/
def lastSum {n : ℕ} (k : ℕ) (x : Fin n → EReal) (i : Fin n) : EReal :=
  ∑ j : Fin n, if j.val ≤ i.val ∧ i.val < j.val + k then x j else 0

theorem lastSum_one {n : ℕ} (x : Fin n → EReal) : lastSum 1 x = x := by
  funext i
  unfold lastSum
  rw [Finset.sum_eq_single i]
  · simp
  · intro j _ hj
    rw [if_neg]
    intro h
    exact hj (Fin.ext (by omega))
  · simp

theorem shiftAdd_lastSum {n : ℕ} (k : ℕ) (x : Fin n → EReal) :
    shiftAdd k (lastSum k x) = lastSum (k + k) x := by
  funext i
  unfold shiftAdd
  by_cases h : i.val < k
  · rw [if_pos h, add_zero]
    unfold lastSum
    refine Finset.sum_congr rfl fun j _ => ?_
    refine if_congr ?_ rfl rfl
    omega
  · rw [if_neg h]
    unfold lastSum
    rw [← Finset.sum_add_distrib]
    refine Finset.sum_congr rfl fun j _ => ?_
    simp only
    by_cases h1 : j.val ≤ i.val ∧ i.val < j.val + k
    · rw [if_pos h1, if_neg (by omega), if_pos (by omega), add_zero]
    · rw [if_neg h1, zero_add]
      refine if_congr ?_ rfl rfl
      omega

/-- The sum of the entries up to and including entry `i`. -/
def upto {n : ℕ} (x : Fin n → EReal) (i : Fin n) : EReal := ∑ j : Fin n, if j.val ≤ i.val then x j else 0

theorem lastSum_all {n k : ℕ} (hk : n ≤ k) (x : Fin n → EReal) : lastSum k x = upto x := by
  funext i
  refine Finset.sum_congr rfl fun j _ => if_congr ?_ rfl rfl
  omega

theorem upto_pred {n : ℕ} (x : Fin n → EReal) (i : Fin n) (h : 0 < i.val) :
    upto x ⟨i.val - 1, by omega⟩ = ∑ j : Fin n, if j < i then x j else 0 := by
  refine Finset.sum_congr rfl fun j _ => if_congr ?_ rfl rfl
  rw [Fin.lt_def]
  simp only
  omega

theorem sum_before_zero {n : ℕ} (x : Fin n → EReal) (i : Fin n) (h : i.val = 0) :
    (∑ j : Fin n, if j < i then x j else 0) = 0 :=
  Finset.sum_eq_zero fun j _ => if_neg (by rw [Fin.lt_def]; omega)

/-- A running sum over 64 entries by six doubling shifts. -/
theorem six_shifts (x : Fin 64 → EReal) :
    shiftAdd 32 (shiftAdd 16 (shiftAdd 8 (shiftAdd 4 (shiftAdd 2 (shiftAdd 1 x))))) = upto x := by
  rw [← lastSum_all (k := 64) (le_refl _) x]
  conv_lhs => rw [← lastSum_one x]
  simp only [shiftAdd_lastSum, Nat.reduceAdd]

/-- A running sum over 192 entries by eight doubling shifts. -/
theorem eight_shifts (x : Fin 192 → EReal) :
    shiftAdd 128 (shiftAdd 64 (shiftAdd 32 (shiftAdd 16 (shiftAdd 8 (shiftAdd 4 (shiftAdd 2 (shiftAdd 1 x)))))))
      = upto x := by
  rw [← lastSum_all (k := 256) (by omega) x]
  conv_lhs => rw [← lastSum_one x]
  simp only [shiftAdd_lastSum, Nat.reduceAdd]

/-- The running sum of the logarithms, moved one place on with a zero in front, under the exponential. -/
theorem exp_shifted_upto {n : ℕ} (f : Fin n → EReal) (hf : ∀ j, 0 < f j) (i : Fin n) :
    Ideal.exp (if i.val < 1 then 0 else upto (fun j => Ideal.log (f j)) ⟨i.val - 1, by omega⟩) = before f i := by
  rw [← exp_sum_log f hf i]
  by_cases h : i.val < 1
  · rw [if_pos h, sum_before_zero _ i (by omega)]
  · rw [if_neg h, upto_pred _ i (by omega)]

/-! ## Products by halving -/

/-- A product over an even number of factors, by folding one half onto the other. -/
theorem prod_halves {n m : ℕ} (e : m = n + n) (f : Fin m → EReal) :
    (∏ i : Fin m, f i) = ∏ i : Fin n, f ⟨i.val, by omega⟩ * f ⟨n + i.val, by omega⟩ := by
  subst e
  rw [Fin.prod_univ_add, ← Finset.prod_mul_distrib]
  rfl

end Cert.Nerf

end

end
-- ==== Proof.Sample.lean ====
/- Sampling a piecewise uniform distribution by inverting its distribution function. `sample` looks the bin up by counting
   the edges not above `u`; `telescoped` adds up the increments of the edges passed. They agree for finite masses, and
   the samples rise with `u`. -/
module

public import proofs.«01_k».proof.Proof.Render
public import Mathlib.Tactic.Linarith
public import Mathlib.Tactic.Ring
public import Mathlib.Tactic.Positivity

@[expose] public section

noncomputable section

namespace Cert.Nerf

open Idealize.ShloMosaic

/-! ## The quantities -/

/-- What is added to every weight, and the least width of a bin that is divided by. -/
def eps : EReal := Ideal.ofBits .f32 0x3727C5AC#32

/-- The share of the total that falls to bin `i`, each weight raised by `eps`. -/
def share {n : ℕ} (w : Fin n → EReal) (i : Fin n) : EReal := Ideal.div (w i + eps) (∑ j, (w j + eps))

/-- The mass of the first `n` bins. -/
def cdf (p : Fin 64 → EReal) (n : ℕ) : EReal := ∑ j : Fin 64, if j.val < n then p j else 0

/-- How many of the 65 edges do not lie above `u`. -/
def passed (p : Fin 64 → EReal) (u : EReal) : ℕ := (Finset.univ.filter fun n : Fin 65 => cdf p n.val ≤ u).card

/-- The point of bin `[b0, b1]` at the place that `u` has in `[g0, g1]`. -/
def place (g0 g1 b0 b1 u : EReal) : EReal :=
  b0 + Ideal.div (u - g0) (if g1 - g0 < eps then 1 else g1 - g0) * (b1 - b0)

/-- Edge `n` of the bins, the last one repeated. -/
def edge {α : Type*} (z : Fin 64 → α) (n : ℕ) : α := z ⟨min n 63, by omega⟩

/-- The sample at `u`. -/
def sample (z p : Fin 64 → EReal) (u : EReal) : EReal :=
  place (cdf p (passed p u - 1)) (cdf p (min (passed p u) 64)) (edge z (passed p u - 1)) (edge z (min (passed p u) 64)) u

/-- One when the mass up to and including bin `k` does not exceed `u`, otherwise zero. -/
def hit (p : Fin 64 → EReal) (u : EReal) (k : Fin 64) : EReal := if upto p k ≤ u then 1 else 0

/-- The sample at `u` with every quantity added up from its increments over the bins passed. -/
def telescoped (z p : Fin 64 → EReal) (u : EReal) : EReal :=
  place (∑ k, p k * hit p u k)
    (upto p 0 + ∑ k : Fin 64, (if h : k.val < 63 then p ⟨k.val + 1, by omega⟩ else 0) * hit p u k)
    (z 0 + ∑ k : Fin 64, (if h : k.val < 63 then z ⟨k.val + 1, by omega⟩ - z k else 0) * hit p u k)
    (z 1 + ∑ k : Fin 64, (if h : k.val < 62 then z ⟨k.val + 2, by omega⟩ - z ⟨k.val + 1, by omega⟩ else 0) * hit p u k) u

/-! ## Counting a prefix -/

theorem card_prefix {N : ℕ} (P : Fin N → Prop) [DecidablePred P] (hP : ∀ i j : Fin N, i ≤ j → P j → P i) (i : Fin N) :
    P i ↔ i.val < (Finset.univ.filter P).card := by
  constructor
  · intro h
    have hsub : (Finset.univ.filter fun j : Fin N => j ≤ i) ⊆ Finset.univ.filter P := by
      intro j hj
      simp only [Finset.mem_filter, Finset.mem_univ, true_and] at hj ⊢
      exact hP j i hj h
    have hc := Finset.card_le_card hsub
    have e : (Finset.univ.filter fun j : Fin N => j ≤ i) = Finset.Iic i := by ext j; simp
    rw [e, Fin.card_Iic] at hc
    omega
  · intro h
    by_contra hn
    have hsub : Finset.univ.filter P ⊆ Finset.univ.filter fun j : Fin N => j < i := by
      intro j hj
      simp only [Finset.mem_filter, Finset.mem_univ, true_and] at hj ⊢
      by_contra hji
      exact hn (hP i j (not_lt.mp hji) hj)
    have hc := Finset.card_le_card hsub
    have e : (Finset.univ.filter fun j : Fin N => j < i) = Finset.Iio i := by ext j; simp
    rw [e, Fin.card_Iio] at hc
    omega

/-! ## Real masses and real edges -/

/-- The mass of the first `n` bins, in the reals. -/
def mass (p : Fin 64 → ℝ) (n : ℕ) : ℝ := ∑ j : Fin 64, if j.val < n then p j else 0

theorem mass_succ (p : Fin 64 → ℝ) (k : Fin 64) : mass p (k.val + 1) - mass p k.val = p k := by
  unfold mass
  rw [← Finset.sum_sub_distrib, Finset.sum_eq_single k]
  · rw [if_pos (Nat.lt_succ_self _), if_neg (lt_irrefl _), sub_zero]
  · intro j _ hj
    have : j.val ≠ k.val := fun h => hj (Fin.ext h)
    by_cases h : j.val < k.val
    · rw [if_pos (by omega), if_pos h, sub_self]
    · rw [if_neg (by omega), if_neg h, sub_self]
  · intro h; exact absurd (Finset.mem_univ k) h

theorem mass_zero (p : Fin 64 → ℝ) : mass p 0 = 0 := Finset.sum_eq_zero fun j _ => if_neg (by omega)

theorem mass_mono {p : Fin 64 → ℝ} (hp : ∀ j, 0 ≤ p j) {n m : ℕ} (h : n ≤ m) : mass p n ≤ mass p m := by
  refine Finset.sum_le_sum fun j _ => ?_
  by_cases h1 : j.val < n
  · rw [if_pos h1, if_pos (by omega)]
  · rw [if_neg h1]; split_ifs
    · exact hp j
    · exact le_refl _

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem cdf_coe (p : Fin 64 → ℝ) (n : ℕ) : cdf (fun j => (p j : EReal)) n = (mass p n : EReal) := by
  unfold cdf mass
  rw [coe_sum]
  refine Finset.sum_congr rfl fun j _ => ?_
  split_ifs <;> simp

theorem upto_eq_cdf (p : Fin 64 → EReal) (k : Fin 64) : upto p k = cdf p (k.val + 1) :=
  Finset.sum_congr rfl fun _ _ => if_congr Nat.lt_succ_iff.symm rfl rfl

/-- How many edges after the first do not lie above `u`. -/
def bin (p : Fin 64 → ℝ) (u : ℝ) : ℕ := passed (fun j => (p j : EReal)) (u : EReal) - 1

section
variable {p : Fin 64 → ℝ} (hp : ∀ j, 0 ≤ p j) {u : ℝ} (hu : 0 ≤ u)
include hp

theorem mass_le_iff (n : Fin 65) : mass p n.val ≤ u ↔ n.val < passed (fun j => (p j : EReal)) (u : EReal) := by
  unfold passed
  rw [← card_prefix]
  · rw [cdf_coe, EReal.coe_le_coe_iff]
  · intro i j hij h
    rw [cdf_coe, EReal.coe_le_coe_iff] at h ⊢
    exact le_trans (mass_mono hp hij) h

include hu

theorem passed_eq : passed (fun j => (p j : EReal)) (u : EReal) = bin p u + 1 := by
  have := (mass_le_iff hp (u := u) 0).mp (by simpa [mass_zero] using hu)
  unfold bin
  simp only [Fin.val_zero] at this
  omega

theorem bin_le : bin p u ≤ 64 := by
  have h : passed (fun j => (p j : EReal)) (u : EReal) ≤ 65 := by
    unfold passed
    exact le_trans (Finset.card_le_univ _) (by simp)
  unfold bin
  omega

theorem mass_le_iff_bin {n : ℕ} (hn : n ≤ 64) : mass p n ≤ u ↔ n ≤ bin p u := by
  have := mass_le_iff hp (u := u) ⟨n, by omega⟩
  rw [passed_eq hp hu] at this
  exact this.trans Nat.lt_succ_iff

theorem hit_eq (k : Fin 64) : hit (fun j => (p j : EReal)) (u : EReal) k = ((if k.val < bin p u then 1 else 0 : ℝ) : EReal) := by
  unfold hit
  rw [upto_eq_cdf, cdf_coe]
  have := mass_le_iff_bin hp hu (n := k.val + 1) (by omega)
  by_cases h : k.val < bin p u
  · rw [if_pos h, if_pos (EReal.coe_le_coe_iff.mpr (this.mpr (by omega))), EReal.coe_one]
  · rw [if_neg h, if_neg (by rw [EReal.coe_le_coe_iff, this]; omega), EReal.coe_zero]

omit hp hu in
theorem tele (f : ℕ → ℝ) (N m : ℕ) :
    (∑ k : Fin N, (f (k.val + 1) - f k.val) * (if k.val < m then 1 else 0)) = f (min m N) - f 0 := by
  rw [Fin.sum_univ_eq_sum_range (fun k => (f (k + 1) - f k) * (if k < m then 1 else 0))]
  induction N with
  | zero => simp
  | succ N ih =>
    rw [Finset.sum_range_succ, ih]
    by_cases h : N < m
    · rw [if_pos h, Nat.min_eq_right (by omega), Nat.min_eq_right (by omega)]; ring
    · rw [if_neg h, Nat.min_eq_left (by omega), Nat.min_eq_left (by omega)]; ring

/-- A start and the increments over the bins passed give the value at the bin reached. -/
theorem tele_hit (f : ℕ → ℝ) (g : Fin 64 → EReal) (hg : ∀ k : Fin 64, g k = ((f (k.val + 1) - f k.val : ℝ) : EReal)) :
    (f 0 : EReal) + ∑ k, g k * hit (fun j => (p j : EReal)) (u : EReal) k = (f (bin p u) : EReal) := by
  have e : (∑ k, g k * hit (fun j => (p j : EReal)) (u : EReal) k)
      = ((∑ k : Fin 64, (f (k.val + 1) - f k.val) * (if k.val < bin p u then 1 else 0) : ℝ) : EReal) := by
    rw [coe_sum]
    refine Finset.sum_congr rfl fun k _ => ?_
    rw [hg k, hit_eq hp hu k, EReal.coe_mul]
  rw [e, tele, Nat.min_eq_left (bin_le hp hu), ← EReal.coe_add]
  congr 1
  ring

/-- The two ways of finding the sample agree. -/
theorem telescoped_eq (z : Fin 64 → ℝ) :
    telescoped (fun j => (z j : EReal)) (fun j => (p j : EReal)) (u : EReal)
      = sample (fun j => (z j : EReal)) (fun j => (p j : EReal)) (u : EReal) := by
  have hb := bin_le hp hu
  unfold telescoped sample
  rw [passed_eq hp hu]
  have hmin : min (bin p u + 1) 64 = min (bin p u + 1) 64 := rfl
  congr 1
  · have h := tele_hit hp hu (mass p) (fun k => (p k : EReal)) (fun k => by rw [mass_succ])
    rw [mass_zero, EReal.coe_zero, zero_add] at h
    rw [h, cdf_coe, Nat.add_sub_cancel]
  · have h := tele_hit hp hu (fun n => mass p (min (n + 1) 64))
      (fun k => if h : k.val < 63 then (p ⟨k.val + 1, by omega⟩ : EReal) else 0) (fun k => by
        by_cases hk : k.val < 63
        · rw [dif_pos hk, Nat.min_eq_left (by omega), Nat.min_eq_left (by omega)]
          rw [← mass_succ p ⟨k.val + 1, by omega⟩]
        · rw [dif_neg hk, Nat.min_eq_right (by omega), Nat.min_eq_right (by omega), sub_self, EReal.coe_zero])
    rw [upto_eq_cdf, cdf_coe, cdf_coe]
    exact h
  · have h := tele_hit hp hu (edge z) (fun k => if h : k.val < 63 then (z ⟨k.val + 1, by omega⟩ : EReal) - z k else 0)
      (fun k => by
        unfold edge
        by_cases hk : k.val < 63
        · rw [dif_pos hk, EReal.coe_sub]
          congr 3 <;> apply Fin.ext <;> simp only <;> omega
        · rw [dif_neg hk]
          simp only [show min (k.val + 1) 63 = min k.val 63 by omega, sub_self, EReal.coe_zero])
    rw [Nat.add_sub_cancel]
    exact h
  · have h := tele_hit hp hu (fun n => edge z (n + 1))
      (fun k => if h : k.val < 62 then (z ⟨k.val + 2, by omega⟩ : EReal) - z ⟨k.val + 1, by omega⟩ else 0)
      (fun k => by
        unfold edge
        by_cases hk : k.val < 62
        · rw [dif_pos hk, EReal.coe_sub]
          congr 3 <;> apply Fin.ext <;> simp only <;> omega
        · rw [dif_neg hk]
          simp only [show min (k.val + 1 + 1) 63 = min (k.val + 1) 63 by omega, sub_self, EReal.coe_zero])
    have e : edge (fun j => (z j : EReal)) (min (bin p u + 1) 64) = ((edge z (bin p u + 1) : ℝ) : EReal) := by
      unfold edge
      simp only [show min (min (bin p u + 1) 64) 63 = min (bin p u + 1) 63 by omega]
    rw [e]
    exact h

end

/-! ## The samples rise with `u` -/

theorem eps_eq : eps = ((10995116 / 1099511627776 : ℝ) : EReal) := by
  unfold eps
  simp [Ideal.ofBits, Ideal.ieee, -EReal.coe_mul]; norm_num

/-- The width divided by, in the reals. -/
def width (g0 g1 : ℝ) : ℝ := if g1 - g0 < 10995116 / 1099511627776 then 1 else g1 - g0

theorem width_pos (g0 g1 : ℝ) : 0 < width g0 g1 := by
  unfold width
  split_ifs with h
  · norm_num
  · exact lt_of_lt_of_le (by norm_num) (not_lt.mp h)

/-- `place` in the reals. -/
def placeR (g0 g1 b0 b1 u : ℝ) : ℝ := b0 + (u - g0) * (width g0 g1)⁻¹ * (b1 - b0)

theorem div_coe {a b : ℝ} (hb : b ≠ 0) : Ideal.div (a : EReal) (b : EReal) = ((a * b⁻¹ : ℝ) : EReal) := by
  unfold Ideal.div
  rw [if_neg (by rw [← EReal.coe_zero, EReal.coe_eq_coe_iff]; exact hb), EReal.coe_mul, EReal.coe_inv]

theorem place_coe (g0 g1 b0 b1 u : ℝ) : place g0 g1 b0 b1 u = (placeR g0 g1 b0 b1 u : EReal) := by
  unfold place placeR
  have e : (if (g1 : EReal) - g0 < eps then 1 else (g1 : EReal) - g0) = (width g0 g1 : EReal) := by
    unfold width
    rw [eps_eq, ← EReal.coe_sub, apply_ite (fun r : ℝ => (r : EReal)), EReal.coe_one]
    exact if_congr EReal.coe_lt_coe_iff rfl rfl
  rw [e, ← EReal.coe_sub, ← EReal.coe_sub, div_coe (width_pos g0 g1).ne', ← EReal.coe_mul, ← EReal.coe_add]

/-- The sample in the reals. -/
def sampleR (z p : Fin 64 → ℝ) (u : ℝ) : ℝ :=
  placeR (mass p (bin p u)) (mass p (min (bin p u + 1) 64)) (edge z (bin p u)) (edge z (bin p u + 1)) u

theorem sample_coe {p : Fin 64 → ℝ} (hp : ∀ j, 0 ≤ p j) {u : ℝ} (hu : 0 ≤ u) (z : Fin 64 → ℝ) :
    sample (fun j => (z j : EReal)) (fun j => (p j : EReal)) (u : EReal) = (sampleR z p u : EReal) := by
  have hb := bin_le hp hu
  unfold sample sampleR
  rw [passed_eq hp hu, cdf_coe, cdf_coe, Nat.add_sub_cancel, ← place_coe]
  unfold edge
  simp only [show min (min (bin p u + 1) 64) 63 = min (bin p u + 1) 63 by omega]

theorem edge_mono {z : Fin 64 → ℝ} (hz : Monotone z) {n m : ℕ} (h : n ≤ m) : edge z n ≤ edge z m :=
  hz (by rw [Fin.le_def]; simp only; omega)

section
variable {z p : Fin 64 → ℝ} (hz : Monotone z) (hp : ∀ j, 0 ≤ p j) {u v : ℝ} (hu : 0 ≤ u)
include hz hp hu

theorem edge_le_sampleR : edge z (bin p u) ≤ sampleR z p u := by
  unfold sampleR placeR
  have h1 : mass p (bin p u) ≤ u := (mass_le_iff_bin hp hu (bin_le hp hu)).mpr (le_refl _)
  have h2 : edge z (bin p u) ≤ edge z (bin p u + 1) := edge_mono hz (by omega)
  have h3 := inv_pos.mpr (width_pos (mass p (bin p u)) (mass p (min (bin p u + 1) 64)))
  have : 0 ≤ (u - mass p (bin p u)) * (width (mass p (bin p u)) (mass p (min (bin p u + 1) 64)))⁻¹
      * (edge z (bin p u + 1) - edge z (bin p u)) :=
    mul_nonneg (mul_nonneg (by linarith) h3.le) (by linarith)
  linarith

theorem sampleR_le_edge : sampleR z p u ≤ edge z (bin p u + 1) := by
  have hb := bin_le hp hu
  have h2 : edge z (bin p u) ≤ edge z (bin p u + 1) := edge_mono hz (by omega)
  by_cases h64 : bin p u = 64
  · have e : edge z (bin p u + 1) = edge z (bin p u) := by
      unfold edge
      simp only [show min (bin p u + 1) 63 = min (bin p u) 63 by omega]
    unfold sampleR placeR
    rw [e]
    simp
  · have h1 : mass p (bin p u) ≤ u := (mass_le_iff_bin hp hu hb).mpr (le_refl _)
    have h4 : u < mass p (min (bin p u + 1) 64) := by
      rw [Nat.min_eq_left (by omega)]
      by_contra hc
      have := (mass_le_iff_bin hp hu (n := bin p u + 1) (by omega)).mp (not_lt.mp hc)
      omega
    unfold sampleR placeR
    set g0 := mass p (bin p u)
    set g1 := mass p (min (bin p u + 1) 64)
    have hw := width_pos g0 g1
    have h5 : u - g0 ≤ width g0 g1 := by
      unfold width
      split_ifs with h
      · have : (10995116 / 1099511627776 : ℝ) ≤ 1 := by norm_num
        linarith
      · linarith
    have h6 : (u - g0) * (width g0 g1)⁻¹ ≤ 1 := by
      rw [← div_eq_mul_inv]
      exact (div_le_one hw).mpr h5
    have h7 : (u - g0) * (width g0 g1)⁻¹ * (edge z (bin p u + 1) - edge z (bin p u))
        ≤ 1 * (edge z (bin p u + 1) - edge z (bin p u)) := mul_le_mul_of_nonneg_right h6 (by linarith)
    linarith

theorem bin_mono (huv : u ≤ v) : bin p u ≤ bin p v :=
  (mass_le_iff_bin hp (le_trans hu huv) (bin_le hp hu)).mp
    (le_trans ((mass_le_iff_bin hp hu (bin_le hp hu)).mpr (le_refl _)) huv)

theorem sampleR_mono (huv : u ≤ v) : sampleR z p u ≤ sampleR z p v := by
  have hv := le_trans hu huv
  rcases Nat.eq_or_lt_of_le (bin_mono hz hp hu huv) with e | h
  · unfold sampleR placeR
    rw [← e]
    have h2 : edge z (bin p u) ≤ edge z (bin p u + 1) := edge_mono hz (by omega)
    have h3 := inv_pos.mpr (width_pos (mass p (bin p u)) (mass p (min (bin p u + 1) 64)))
    have := mul_le_mul_of_nonneg_right
      (mul_le_mul_of_nonneg_right (sub_le_sub_right huv (mass p (bin p u))) h3.le) (sub_nonneg.mpr h2)
    linarith
  · calc sampleR z p u ≤ edge z (bin p u + 1) := sampleR_le_edge hz hp hu
      _ ≤ edge z (bin p v) := edge_mono hz h
      _ ≤ sampleR z p v := edge_le_sampleR hz hp hv

end

/-! ## The weights are finite, so are the shares -/

theorem exp_le_one {x : EReal} (h : x ≤ 0) : Ideal.exp x ≤ 1 := by
  induction x with
  | bot => simp
  | top => simp at h
  | coe r =>
    rw [Ideal.exp_coe, ← EReal.coe_one, EReal.coe_le_coe_iff]
    exact Real.exp_le_one_iff.mpr (EReal.coe_nonpos.mp h)

/-- A nonnegative extended real below a real one is real. -/
theorem exists_real {x : EReal} {b : ℝ} (h0 : 0 ≤ x) (h1 : x ≤ b) : ∃ r : ℝ, 0 ≤ r ∧ r ≤ b ∧ x = r := by
  induction x with
  | bot => simp at h0
  | top => simp at h1
  | coe r => exact ⟨r, EReal.coe_nonneg.mp h0, EReal.coe_le_coe_iff.mp h1, rfl⟩

theorem farGap_nonneg : 0 ≤ farGap := by
  unfold farGap
  have : Ideal.ofBits .f32 0x501502F9#32 = ((10000000000 : ℝ) : EReal) := by
    simp [Ideal.ofBits, Ideal.ieee, -EReal.coe_mul]; norm_num
  rw [this]
  exact EReal.coe_nonneg.mpr (by norm_num)

theorem gap_nonneg {n : ℕ} {z : Fin n → ℝ} (hz : Monotone z) (i : Fin n) : 0 ≤ gap (fun j => (z j : EReal)) i := by
  unfold gap
  split_ifs with h
  · rw [← EReal.coe_sub]
    exact EReal.coe_nonneg.mpr (sub_nonneg.mpr (hz (by rw [Fin.le_def]; simp)))
  · exact farGap_nonneg

theorem atten_real {n : ℕ} (σ : Fin n → EReal) {z : Fin n → ℝ} (hz : Monotone z) {len : EReal} (hl : 0 ≤ len) (i : Fin n) :
    ∃ r : ℝ, 0 ≤ r ∧ r ≤ 1 ∧ atten σ (fun j => (z j : EReal)) len i = r := by
  refine exists_real (atten_nonneg _ _ _ _) ?_
  unfold atten
  rw [EReal.coe_one]
  refine exp_le_one ?_
  have h : 0 ≤ max (σ i) 0 * (gap (fun j => (z j : EReal)) i * len) :=
    mul_nonneg (le_max_right _ _) (mul_nonneg (gap_nonneg hz i) hl)
  rw [EReal.neg_mul]
  simpa using EReal.neg_le_neg_iff.mpr h

theorem before_real {n : ℕ} {f : Fin n → EReal} (hf : ∀ j, ∃ r : ℝ, 0 ≤ r ∧ f j = r) (i : Fin n) :
    ∃ r : ℝ, 0 ≤ r ∧ before f i = r := by
  unfold before
  refine Finset.prod_induction _ (fun x : EReal => ∃ r : ℝ, 0 ≤ r ∧ x = (r : EReal)) ?_ ⟨1, zero_le_one, rfl⟩ ?_
  · rintro _ _ ⟨a, ha, rfl⟩ ⟨b, hb, rfl⟩
    exact ⟨a * b, mul_nonneg ha hb, (EReal.coe_mul a b).symm⟩
  · intro j _
    split_ifs
    · exact hf j
    · exact ⟨1, zero_le_one, rfl⟩

theorem weight_real {n : ℕ} (σ : Fin n → EReal) {z : Fin n → ℝ} (hz : Monotone z) {len : EReal} (hl : 0 ≤ len) (i : Fin n) :
    ∃ r : ℝ, 0 ≤ r ∧ weight σ (fun j => (z j : EReal)) len i = r := by
  obtain ⟨a, ha0, ha1, ha⟩ := atten_real σ hz hl i
  obtain ⟨b, hb0, hb⟩ := before_real (f := fun j => atten σ (fun j => (z j : EReal)) len j + tiny) (fun j => by
    obtain ⟨c, hc0, -, hc⟩ := atten_real σ hz hl j
    exact ⟨c + 14411519 / 144115188075855872, by positivity, by rw [hc, tiny_eq, ← EReal.coe_add]⟩) i
  refine ⟨(1 - a) * b, mul_nonneg (by linarith) hb0, ?_⟩
  unfold weight
  rw [ha, hb, EReal.coe_mul, EReal.coe_sub, EReal.coe_one]

theorem share_real {w : Fin 64 → EReal} (hw : ∀ j, ∃ r : ℝ, 0 ≤ r ∧ w j = r) (i : Fin 64) :
    ∃ r : ℝ, 0 ≤ r ∧ share w i = r := by
  choose r hr0 hr using hw
  unfold share
  have e : (∑ j, (w j + eps)) = ((∑ j, (r j + 10995116 / 1099511627776) : ℝ) : EReal) := by
    rw [coe_sum]
    exact Finset.sum_congr rfl fun j _ => by rw [hr j, eps_eq, ← EReal.coe_add]
  have hpos : 0 < ∑ j, (r j + 10995116 / 1099511627776) :=
    Finset.sum_pos (fun j _ => by have := hr0 j; positivity) ⟨i, Finset.mem_univ i⟩
  refine ⟨(r i + 10995116 / 1099511627776) * (∑ j, (r j + 10995116 / 1099511627776))⁻¹, ?_, ?_⟩
  · have := hr0 i
    positivity
  · rw [e, hr i, eps_eq, ← EReal.coe_add, div_coe hpos.ne']

end Cert.Nerf

end

end
-- ==== Proof.Merge.lean ====
/- A bitonic merge of 256 numbers, eight stages at distances 128, 64, …, 1. A sequence that rises over its first half and
   falls over its second comes out sorted; every stage is a rearrangement; and since a sorted rearrangement of a sequence
   is unique, the merge of a rising row, a row of infinities and a falling row begins with the sorted row. -/
module

public import Mathlib.Data.EReal.Basic
public import Idealize.ShloMosaic.Lib.SortFacts
public import Mathlib.Data.List.OfFn
public import Mathlib.Data.List.FinRange
public import Mathlib.Tactic.Ring
public import Mathlib.Order.Monotone.Basic

@[expose] public section

noncomputable section

namespace Cert.Nerf

/-! ## One stage and the whole merge -/

/-- The place `k` further on, around the end. -/
def fwd (k : ℕ) (i : Fin 256) : Fin 256 := ⟨(i.val + k) % 256, by omega⟩

/-- The place `k` further back, around the start. -/
def bwd (k : ℕ) (i : Fin 256) : Fin 256 := ⟨(i.val + (256 - k)) % 256, by omega⟩

/-- One stage: the lower place of every pair at distance `k` keeps the smaller number, the upper place the larger. -/
def stage (k : ℕ) (c : Fin 256 → EReal) (i : Fin 256) : EReal :=
  if i.val / k % 2 = 0 then min (c i) (c (fwd k i)) else max (c i) (c (bwd k i))

/-- The eight stages. -/
def merge (c : Fin 256 → EReal) : Fin 256 → EReal :=
  stage 1 (stage 2 (stage 4 (stage 8 (stage 16 (stage 32 (stage 64 (stage 128 c)))))))

/-- The distances of the stages. -/
def IsDist (k : ℕ) : Prop := k = 1 ∨ k = 2 ∨ k = 4 ∨ k = 8 ∨ k = 16 ∨ k = 32 ∨ k = 64 ∨ k = 128

theorem fwd_val {k : ℕ} (hk : IsDist k) {i : Fin 256} (h : i.val / k % 2 = 0) : (fwd k i).val = i.val + k := by
  have hi := i.isLt
  unfold fwd
  rcases hk with rfl | rfl | rfl | rfl | rfl | rfl | rfl | rfl <;> simp only <;> omega

theorem bwd_val {k : ℕ} (hk : IsDist k) {i : Fin 256} (h : ¬ i.val / k % 2 = 0) : (bwd k i).val + k = i.val := by
  have hi := i.isLt
  unfold bwd
  rcases hk with rfl | rfl | rfl | rfl | rfl | rfl | rfl | rfl <;> simp only <;> omega

theorem add_dist_odd {k : ℕ} (hk : IsDist k) {n : ℕ} (h : n / k % 2 = 0) : ¬ (n + k) / k % 2 = 0 := by
  rcases hk with rfl | rfl | rfl | rfl | rfl | rfl | rfl | rfl <;> omega

theorem sub_dist_even {k : ℕ} (hk : IsDist k) {n m : ℕ} (e : m + k = n) (h : ¬ n / k % 2 = 0) : m / k % 2 = 0 := by
  rcases hk with rfl | rfl | rfl | rfl | rfl | rfl | rfl | rfl <;> omega

theorem bwd_fwd {k : ℕ} (hk : IsDist k) {i : Fin 256} (h : i.val / k % 2 = 0) : bwd k (fwd k i) = i := by
  have e := fwd_val hk h
  have e2 := bwd_val hk (i := fwd k i) (by rw [e]; exact add_dist_odd hk h)
  exact Fin.ext (by omega)

theorem fwd_bwd {k : ℕ} (hk : IsDist k) {i : Fin 256} (h : ¬ i.val / k % 2 = 0) : fwd k (bwd k i) = i := by
  have e := bwd_val hk h
  have e2 := fwd_val hk (i := bwd k i) (sub_dist_even hk e h)
  exact Fin.ext (by omega)

/-! ## A stage rearranges -/

/-- Where the stage takes the number at place `i` from. -/
def source (k : ℕ) (c : Fin 256 → EReal) (i : Fin 256) : Fin 256 :=
  if i.val / k % 2 = 0 then (if c (fwd k i) < c i then fwd k i else i)
  else (if c i < c (bwd k i) then bwd k i else i)

theorem source_involutive {k : ℕ} (hk : IsDist k) (c : Fin 256 → EReal) : Function.Involutive (source k c) := by
  intro i
  by_cases h : i.val / k % 2 = 0
  · by_cases hc : c (fwd k i) < c i
    · have e : source k c i = fwd k i := by unfold source; rw [if_pos h, if_pos hc]
      rw [e]
      unfold source
      rw [if_neg (by rw [fwd_val hk h]; exact add_dist_odd hk h), bwd_fwd hk h, if_pos hc]
    · have e : source k c i = i := by unfold source; rw [if_pos h, if_neg hc]
      rw [e, e]
  · by_cases hc : c i < c (bwd k i)
    · have e : source k c i = bwd k i := by unfold source; rw [if_neg h, if_pos hc]
      rw [e]
      unfold source
      rw [if_pos (sub_dist_even hk (bwd_val hk h) h), fwd_bwd hk h, if_pos hc]
    · have e : source k c i = i := by unfold source; rw [if_neg h, if_neg hc]
      rw [e, e]

theorem stage_eq_source (k : ℕ) (c : Fin 256 → EReal) : stage k c = c ∘ source k c := by
  funext i
  unfold stage source
  simp only [Function.comp]
  split
  · split
    · rename_i h; exact min_eq_right h.le
    · rename_i h; exact min_eq_left (not_lt.mp h)
  · split
    · rename_i h; exact max_eq_right h.le
    · rename_i h; exact max_eq_left (not_lt.mp h)

theorem stage_perm {k : ℕ} (hk : IsDist k) (c : Fin 256 → EReal) :
    ∃ σ : Equiv.Perm (Fin 256), stage k c = c ∘ σ :=
  ⟨(source_involutive hk c).toPerm, stage_eq_source k c⟩

theorem stage_perm_of {k : ℕ} (hk : IsDist k) {c d : Fin 256 → EReal} (h : ∃ σ : Equiv.Perm (Fin 256), d = c ∘ σ) :
    ∃ σ : Equiv.Perm (Fin 256), stage k d = c ∘ σ := by
  obtain ⟨σ, rfl⟩ := h
  obtain ⟨τ, hτ⟩ := stage_perm hk (c ∘ σ)
  exact ⟨τ.trans σ, hτ⟩

theorem merge_perm (c : Fin 256 → EReal) : ∃ σ : Equiv.Perm (Fin 256), merge c = c ∘ σ := by
  unfold merge
  have h0 : ∃ σ : Equiv.Perm (Fin 256), c = c ∘ σ := ⟨Equiv.refl _, rfl⟩
  have h1 := stage_perm_of (k := 128) (by simp [IsDist]) h0
  have h2 := stage_perm_of (k := 64) (by simp [IsDist]) h1
  have h3 := stage_perm_of (k := 32) (by simp [IsDist]) h2
  have h4 := stage_perm_of (k := 16) (by simp [IsDist]) h3
  have h5 := stage_perm_of (k := 8) (by simp [IsDist]) h4
  have h6 := stage_perm_of (k := 4) (by simp [IsDist]) h5
  have h7 := stage_perm_of (k := 2) (by simp [IsDist]) h6
  exact stage_perm_of (k := 1) (by simp [IsDist]) h7

/-! ## The merge sorts: which places lie above a threshold -/

/-- All places before one block of `k` are low, all after it high, and within the block the high places are an interval
    (`v` true) or the low places are (`v` false). -/
def OneBlock (k : ℕ) (x : ℕ → Prop) : Prop :=
  ∃ (p a e : ℕ) (v : Prop), a ≤ e ∧ e ≤ k ∧ (∀ i, i < p * k → ¬ x i) ∧ (∀ i, p * k + k ≤ i → x i)
    ∧ ∀ j, j < k → (x (p * k + j) ↔ (v ↔ (a ≤ j ∧ j < e)))

theorem OneBlock.halve {k : ℕ} (hk : 0 < k) {x y : ℕ → Prop}
    (hlo : ∀ i, i / k % 2 = 0 → (y i ↔ x i ∧ x (i + k)))
    (hhi : ∀ i, ¬ i / k % 2 = 0 → (y i ↔ x i ∨ x (i - k)))
    (h : OneBlock (2 * k) x) : OneBlock k y := by
  obtain ⟨p, a, e, v, hae, hek, hbelow, habove, hin⟩ := h
  have hq : p * (2 * k) = (2 * p) * k := by ring
  have hq1 : (2 * p + 1) * k = (2 * p) * k + k := by ring
  rw [hq] at hbelow habove hin
  generalize hQ : (2 * p) * k = q at *
  have dlo : ∀ j, j < k → (q + j) / k % 2 = 0 := by
    intro j hj
    rw [← hQ, mul_comm, Nat.mul_add_div hk, Nat.div_eq_of_lt hj]; omega
  have dhi : ∀ j, j < k → ¬ (q + k + j) / k % 2 = 0 := by
    intro j hj
    rw [← hq1, mul_comm, Nat.mul_add_div hk, Nat.div_eq_of_lt hj]; omega
  have ylo : ∀ j, j < k → (y (q + j) ↔ ((v ↔ (a ≤ j ∧ j < e)) ∧ (v ↔ (a ≤ k + j ∧ k + j < e)))) := by
    intro j hj
    rw [hlo _ (dlo j hj), hin j (by omega), show q + j + k = q + (k + j) by omega, hin (k + j) (by omega)]
  have yhi : ∀ j, j < k → (y (q + k + j) ↔ ((v ↔ (a ≤ k + j ∧ k + j < e)) ∨ (v ↔ (a ≤ j ∧ j < e)))) := by
    intro j hj
    rw [hhi _ (dhi j hj), show q + k + j - k = q + j by omega, hin j (by omega), show q + k + j = q + (k + j) by omega,
      hin (k + j) (by omega)]
  have ybelow : ∀ i, i < q → ¬ y i := by
    intro i hi
    by_cases hd : i / k % 2 = 0
    · rw [hlo i hd]; exact fun hx => hbelow i hi hx.1
    · rw [hhi i hd]; rintro (hx | hx)
      · exact hbelow i hi hx
      · exact hbelow (i - k) (by omega) hx
  have yabove : ∀ i, q + k + k ≤ i → y i := by
    intro i hi
    by_cases hd : i / k % 2 = 0
    · rw [hlo i hd]; exact ⟨habove i (by omega), habove (i + k) (by omega)⟩
    · rw [hhi i hd]; exact .inl (habove i (by omega))
  -- the block narrows to its upper half when the lower one is all low, to its lower half when the upper one is all high
  have upper : ∀ (a' e' : ℕ) (v' : Prop), a' ≤ e' → e' ≤ k → (∀ j, j < k → ¬ y (q + j)) →
      (∀ j, j < k → (y (q + k + j) ↔ (v' ↔ (a' ≤ j ∧ j < e')))) → OneBlock k y := by
    intro a' e' v' h1 h2 h3 h4
    refine ⟨2 * p + 1, a', e', v', h1, h2, ?_, ?_, ?_⟩
    · intro i hi
      rw [hq1] at hi
      by_cases hiq : i < q
      · exact ybelow i hiq
      · have := h3 (i - q) (by omega)
        rwa [show q + (i - q) = i by omega] at this
    · intro i hi
      rw [hq1] at hi
      exact yabove i hi
    · rw [hq1]; exact h4
  have lower : ∀ (a' e' : ℕ) (v' : Prop), a' ≤ e' → e' ≤ k → (∀ j, j < k → y (q + k + j)) →
      (∀ j, j < k → (y (q + j) ↔ (v' ↔ (a' ≤ j ∧ j < e')))) → OneBlock k y := by
    intro a' e' v' h1 h2 h3 h4
    refine ⟨2 * p, a', e', v', h1, h2, ?_, ?_, ?_⟩
    · rw [hQ]; exact ybelow
    · intro i hi
      rw [hQ] at hi
      by_cases hiq : i < q + k + k
      · have := h3 (i - (q + k)) (by omega)
        rwa [show q + k + (i - (q + k)) = i by omega] at this
      · exact yabove i (by omega)
    · rw [hQ]; exact h4
  by_cases hv : v
  · simp only [hv, true_iff] at ylo yhi
    by_cases c1 : e ≤ k
    · exact upper a e True hae c1 (fun j hj => by rw [ylo j hj]; omega) (fun j hj => by rw [yhi j hj, true_iff]; omega)
    by_cases c2 : k ≤ a
    · exact upper (a - k) (e - k) True (by omega) (by omega) (fun j hj => by rw [ylo j hj]; omega)
        (fun j hj => by rw [yhi j hj, true_iff]; omega)
    by_cases c3 : e - k ≤ a
    · exact upper (e - k) a False c3 (by omega) (fun j hj => by rw [ylo j hj]; omega)
        (fun j hj => by rw [yhi j hj, false_iff]; omega)
    · exact lower a (e - k) True (by omega) (by omega) (fun j hj => by rw [yhi j hj]; omega)
        (fun j hj => by rw [ylo j hj, true_iff]; omega)
  · simp only [hv, false_iff] at ylo yhi
    by_cases c1 : e ≤ k
    · exact lower a e False hae c1 (fun j hj => by rw [yhi j hj]; omega) (fun j hj => by rw [ylo j hj, false_iff]; omega)
    by_cases c2 : k ≤ a
    · exact lower (a - k) (e - k) False (by omega) (by omega) (fun j hj => by rw [yhi j hj]; omega)
        (fun j hj => by rw [ylo j hj, false_iff]; omega)
    by_cases c3 : e - k ≤ a
    · exact lower (e - k) a True c3 (by omega) (fun j hj => by rw [yhi j hj]; omega)
        (fun j hj => by rw [ylo j hj, true_iff]; omega)
    · exact upper a (e - k) False (by omega) (by omega) (fun j hj => by rw [ylo j hj]; omega)
        (fun j hj => by rw [yhi j hj, false_iff]; omega)

/-- Place `i` holds a number above `t`; places past the end count as high. -/
def High (t : EReal) (c : Fin 256 → EReal) (i : ℕ) : Prop := ∀ h : i < 256, t < c ⟨i, h⟩

theorem high_val (t : EReal) (c : Fin 256 → EReal) (i : Fin 256) : High t c i.val ↔ t < c i :=
  ⟨fun h => h i.isLt, fun h _ => h⟩

theorem OneBlock.stage {k : ℕ} (hk : IsDist k) {t : EReal} {c : Fin 256 → EReal} (h : OneBlock (2 * k) (High t c)) :
    OneBlock k (High t (stage k c)) := by
  have hk0 : 0 < k := by rcases hk with rfl | rfl | rfl | rfl | rfl | rfl | rfl | rfl <;> omega
  refine OneBlock.halve hk0 ?_ ?_ h
  · intro i hd
    by_cases hi : i < 256
    · obtain ⟨n, rfl⟩ : ∃ n : Fin 256, i = n.val := ⟨⟨i, hi⟩, rfl⟩
      rw [← fwd_val hk hd, high_val, high_val, high_val]
      unfold Cert.Nerf.stage
      rw [if_pos hd, lt_min_iff]
    · exact ⟨fun _ => ⟨fun h => absurd h hi, fun h => absurd h (by omega)⟩, fun _ h => absurd h hi⟩
  · intro i hd
    by_cases hi : i < 256
    · obtain ⟨n, rfl⟩ : ∃ n : Fin 256, i = n.val := ⟨⟨i, hi⟩, rfl⟩
      rw [show n.val - k = (bwd k n).val by have := bwd_val hk hd; omega, high_val, high_val, high_val]
      unfold Cert.Nerf.stage
      rw [if_neg hd, lt_max_iff]
    · exact ⟨fun _ => .inl fun h => absurd h hi, fun _ h => absurd h hi⟩

/-- A sequence that rises over its first half and falls over its second is one block. -/
theorem oneBlock_start {t : EReal} {c : Fin 256 → EReal}
    (hup : ∀ i j : Fin 256, i ≤ j → j.val < 128 → c i ≤ c j) (hdown : ∀ i j : Fin 256, 128 ≤ i.val → i ≤ j → c j ≤ c i) :
    OneBlock (2 * 128) (High t c) := by
  classical
  have ha : ∃ a, 128 ≤ a ∨ High t c a := ⟨128, .inl (le_refl _)⟩
  have he : ∃ e, 128 ≤ e ∧ (256 ≤ e ∨ ¬ High t c e) := ⟨256, by omega, .inl (le_refl _)⟩
  have hal : Nat.find ha ≤ 128 := Nat.find_le (.inl (le_refl _))
  have hel : Nat.find he ≤ 256 := Nat.find_le ⟨by omega, .inl (le_refl _)⟩
  have heg : 128 ≤ Nat.find he := (Nat.find_spec he).1
  refine ⟨0, Nat.find ha, Nat.find he, True, by omega, by omega, fun i hi => absurd hi (by omega), ?_, ?_⟩
  · intro i hi h; omega
  · intro j hj
    rw [Nat.zero_mul, Nat.zero_add, true_iff]
    constructor
    · intro hx
      refine ⟨Nat.find_le (.inr hx), ?_⟩
      by_contra hlt
      rw [not_lt] at hlt
      rcases (Nat.find_spec he).2 with h | h
      · omega
      · refine h fun h' => lt_of_lt_of_le (hx (by omega)) (hdown _ _ ?_ ?_)
        · exact heg
        · exact hlt
    · rintro ⟨h1, h2⟩
      by_cases hj2 : j < 128
      · rcases Nat.find_spec ha with h | h
        · omega
        · intro h'
          exact lt_of_lt_of_le (h (by omega)) (hup _ _ h1 hj2)
      · have := Nat.find_min he h2
        simp only [not_and, not_or, not_not] at this
        exact (this (by omega)).2

theorem merge_monotone {c : Fin 256 → EReal}
    (hup : ∀ i j : Fin 256, i ≤ j → j.val < 128 → c i ≤ c j) (hdown : ∀ i j : Fin 256, 128 ≤ i.val → i ≤ j → c j ≤ c i) :
    Monotone (merge c) := by
  intro i j hij
  refine le_of_forall_lt fun t ht => ?_
  have h0 := oneBlock_start (t := t) hup hdown
  have h1 := OneBlock.stage (k := 128) (by simp [IsDist]) h0
  have h2 := OneBlock.stage (k := 64) (by simp [IsDist]) h1
  have h3 := OneBlock.stage (k := 32) (by simp [IsDist]) h2
  have h4 := OneBlock.stage (k := 16) (by simp [IsDist]) h3
  have h5 := OneBlock.stage (k := 8) (by simp [IsDist]) h4
  have h6 := OneBlock.stage (k := 4) (by simp [IsDist]) h5
  have h7 := OneBlock.stage (k := 2) (by simp [IsDist]) h6
  have h8 : OneBlock 1 (High t (merge c)) := OneBlock.stage (k := 1) (by simp [IsDist]) h7
  obtain ⟨p, a, e, v, -, -, hb, hab, -⟩ := h8
  rw [← high_val] at ht ⊢
  have hpi : p ≤ i.val := by
    by_contra h
    exact hb i.val (by omega) ht
  by_cases hej : j.val = i.val
  · rw [hej]; exact ht
  · refine hab j.val ?_
    rw [Fin.le_def] at hij
    omega

/-! ## The merge of a rising row, infinities and a falling row -/

/-- Row `z`, then 64 infinities, then row `s` backwards. -/
def tent (z : Fin 64 → EReal) (s : Fin 128 → EReal) (i : Fin 256) : EReal :=
  if h : i.val < 64 then z ⟨i.val, h⟩ else if h2 : i.val < 128 then ⊤ else s ⟨255 - i.val, by omega⟩

/-- Row `z`, then row `s`. -/
def row (z : Fin 64 → EReal) (s : Fin 128 → EReal) (i : Fin 192) : EReal :=
  if h : i.val < 64 then z ⟨i.val, h⟩ else s ⟨i.val - 64, by omega⟩

/-- Row `z`, row `s`, then 64 infinities. -/
def padded (r : Fin 192 → EReal) (i : Fin 256) : EReal := if h : i.val < 192 then r ⟨i.val, h⟩ else ⊤

/-- Where the number of `tent` at a place stands in `padded`. -/
def tentAt (n : ℕ) : ℕ := if n < 64 then n else if n < 128 then n + 128 else 319 - n

theorem tentAt_lt {n : ℕ} (h : n < 256) : tentAt n < 256 := by unfold tentAt; split_ifs <;> omega

theorem tentAt_inj {n m : ℕ} (hn : n < 256) (hm : m < 256) (h : tentAt n = tentAt m) : n = m := by
  unfold tentAt at h; split_ifs at h <;> omega

theorem tentPlace_injective : Function.Injective fun i : Fin 256 => (⟨tentAt i.val, tentAt_lt i.isLt⟩ : Fin 256) :=
  fun i j h => Fin.ext (tentAt_inj i.isLt j.isLt (Fin.mk.inj_iff.mp h))

/-- The same as a rearrangement. -/
def tentPlace : Equiv.Perm (Fin 256) :=
  Equiv.ofBijective _ (Finite.injective_iff_bijective.mp tentPlace_injective)

theorem tent_eq_padded (z : Fin 64 → EReal) (s : Fin 128 → EReal) : tent z s = padded (row z s) ∘ tentPlace := by
  funext i
  show tent z s i = padded (row z s) ⟨tentAt i.val, tentAt_lt i.isLt⟩
  have hi := i.isLt
  by_cases h1 : i.val < 64
  · have e : tentAt i.val = i.val := by unfold tentAt; rw [if_pos h1]
    simp only [e]
    unfold tent padded row
    rw [dif_pos h1, dif_pos (show i.val < 192 by omega), dif_pos h1]
  · by_cases h2 : i.val < 128
    · have e : tentAt i.val = i.val + 128 := by unfold tentAt; rw [if_neg h1, if_pos h2]
      simp only [e]
      unfold tent padded
      rw [dif_neg h1, dif_pos h2, dif_neg (show ¬ i.val + 128 < 192 by omega)]
    · have e : tentAt i.val = 319 - i.val := by unfold tentAt; rw [if_neg h1, if_neg h2]
      simp only [e]
      unfold tent padded row
      rw [dif_neg h1, dif_neg h2, dif_pos (show 319 - i.val < 192 by omega), dif_neg (show ¬ 319 - i.val < 64 by omega)]
      congr 1
      apply Fin.ext
      show 255 - i.val = 319 - i.val - 64
      omega

/-- A rearrangement of the first 192 places, the others left alone. -/
def keepRest (f : Fin 192 → Fin 192) (i : Fin 256) : Fin 256 :=
  if h : i.val < 192 then ⟨(f ⟨i.val, h⟩).val, by have := (f ⟨i.val, h⟩).isLt; omega⟩ else i

theorem keepRest_injective {f : Fin 192 → Fin 192} (hf : Function.Injective f) : Function.Injective (keepRest f) := by
  intro i j hij
  unfold keepRest at hij
  by_cases hi : i.val < 192
  · by_cases hj : j.val < 192
    · rw [dif_pos hi, dif_pos hj] at hij
      have := hf (Fin.ext (Fin.mk.inj_iff.mp hij))
      exact Fin.ext (Fin.mk.inj_iff.mp this)
    · rw [dif_pos hi, dif_neg hj] at hij
      have := (f ⟨i.val, hi⟩).isLt
      have := congrArg Fin.val hij
      simp only at this
      omega
  · by_cases hj : j.val < 192
    · rw [dif_neg hi, dif_pos hj] at hij
      have := (f ⟨j.val, hj⟩).isLt
      have := congrArg Fin.val hij
      simp only at this
      omega
    · rwa [dif_neg hi, dif_neg hj] at hij

/-- Two rising rearrangements of one sequence agree. -/
theorem rising_unique {n : ℕ} {f : Fin n → EReal} {σ τ : Equiv.Perm (Fin n)} (hσ : Monotone (f ∘ σ))
    (hτ : Monotone (f ∘ τ)) : f ∘ σ = f ∘ τ := by
  refine List.ofFn_injective (List.Perm.eq_of_pairwise' (r := (· ≤ ·)) ?_ ?_ ((σ.ofFn_comp_perm f).trans (τ.ofFn_comp_perm f).symm))
  · exact hσ.sortedLE_ofFn.pairwise
  · exact hτ.sortedLE_ofFn.pairwise

theorem tent_rises {z : Fin 64 → EReal} (hz : Monotone z) (s : Fin 128 → EReal) (i j : Fin 256) (hij : i.val ≤ j.val)
    (hj : j.val < 128) : tent z s i ≤ tent z s j := by
  unfold tent
  by_cases h1 : j.val < 64
  · rw [dif_pos h1, dif_pos (show i.val < 64 by omega)]; exact hz hij
  · rw [dif_neg h1, dif_pos hj]; exact le_top

theorem tent_falls (z : Fin 64 → EReal) {s : Fin 128 → EReal} (hs : Monotone s) (i j : Fin 256) (hi : 128 ≤ i.val)
    (hij : i.val ≤ j.val) : tent z s j ≤ tent z s i := by
  unfold tent
  rw [dif_neg (show ¬ i.val < 64 by omega), dif_neg (show ¬ i.val < 128 by omega), dif_neg (show ¬ j.val < 64 by omega),
    dif_neg (show ¬ j.val < 128 by omega)]
  exact hs (Nat.sub_le_sub_left hij 255)

theorem padded_rises {r : Fin 192 → EReal} (hr : Monotone r) : Monotone (padded r) := by
  intro i j hij
  rw [Fin.le_def] at hij
  unfold padded
  by_cases h : j.val < 192
  · rw [dif_pos h, dif_pos (show i.val < 192 by omega)]; exact hr hij
  · rw [dif_neg h]; exact le_top

theorem padded_keepRest (r : Fin 192 → EReal) (f : Fin 192 → Fin 192) (i : Fin 256) :
    padded r (keepRest f i) = padded (fun i => r (f i)) i := by
  unfold padded keepRest
  by_cases h : i.val < 192
  · have := (f ⟨i.val, h⟩).isLt
    simp only [h, dite_true, this, Fin.eta]
  · simp only [h, dite_false]

/-- The first 192 places among the 256. -/
def early (i : Fin 192) : Fin 256 := ⟨i.val, lt_trans i.isLt (by norm_num)⟩

/-- The merge of `tent z s` begins with the sorted rearrangement of `row z s`, however that was found. -/
theorem merge_tent {z : Fin 64 → EReal} {s : Fin 128 → EReal} (hz : Monotone z) (hs : Monotone s)
    (f : Fin 192 → Fin 192) (hf : Function.Injective f) (hm : Monotone fun i => row z s (f i)) (i : Fin 192) :
    merge (tent z s) (early i) = row z s (f i) := by
  obtain ⟨σ, hσ⟩ := merge_perm (tent z s)
  have hmono : Monotone (merge (tent z s)) :=
    merge_monotone (fun i j h => tent_rises hz s i j h) (fun i j h h' => tent_falls z hs i j h h')
  obtain ⟨τ, hτ⟩ : ∃ τ : Equiv.Perm (Fin 256), padded (row z s) ∘ τ = padded fun i => row z s (f i) :=
    ⟨Equiv.ofBijective (keepRest f) (Finite.injective_iff_bijective.mp (keepRest_injective hf)),
      funext fun i => padded_keepRest (row z s) f i⟩
  have e : merge (tent z s) = padded (row z s) ∘ (σ.trans tentPlace) := by
    rw [hσ, tent_eq_padded]; rfl
  rw [e] at hmono
  have key := rising_unique hmono (hτ ▸ padded_rises hm)
  rw [e, key, hτ]
  exact dif_pos i.isLt

end Cert.Nerf

end

end
-- ==== Proof.Steps.lean ====
/- The repeated steps of the kernel's bodies, shifted additions and stages of the merge, read column by column. -/
module

public import proofs.«01_k».proof.Proof.Gen.KernelIdeal.Skeleton
public import proofs.«01_k».proof.Proof.Sample
public import proofs.«01_k».proof.Proof.Merge
public import Idealize.ShloMosaic.Lib.Pointwise

@[expose] public section

set_option maxRecDepth 16384

noncomputable section

namespace Cert.Nerf.Body

open Idealize.ShloMosaic Idealize.SL.Sem
open Cert.KernelIdeal Cert.KernelIdeal.Gen

/-- One column of a matrix. -/
abbrev col {n m : ℕ} (x : (⟨2, ![n, m]⟩ : Shape).Idx → EReal) (j : Fin m) (i : Fin n) : EReal := x (ix2 i j)

theorem pick_one {α : Type} (a b : α) : Scalar.select 1#1 a b = a := rfl

theorem pick_zero {α : Type} (a b : α) : Scalar.select 0#1 a b = b := rfl

theorem stage_of_even {k : ℕ} (c : Fin 256 → EReal) {i : Fin 256} (h : i.val / k % 2 = 0) :
    stage k c i = min (c i) (c (fwd k i)) := if_pos h

theorem stage_of_odd {k : ℕ} (c : Fin 256 → EReal) {i : Fin 256} (h : ¬ i.val / k % 2 = 0) :
    stage k c i = max (c i) (c (bwd k i)) := if_neg h

/-- Every row plus the row 1 above it. -/
def shift1 (x : FVec Ideal S64x128 .f32) : FVec Ideal S64x128 .f32 :=
  addf x (concatenate S64x128 0 [⟨S1x128, broadcast S1x128 (Scalar.ofBits .f32 0x00000000#32)⟩, ⟨S63x128, extractStridedSlice S63x128 ![0, 0] x slices_S64x128_o0_0_S63x128⟩] concatenates_S1x128_S63x128_S64x128_d0)

theorem shift1_col (x : FVec Ideal S64x128 .f32) (j : Fin 128) : col (shift1 x) j = shiftAdd 1 (col x j) := by
  funext i
  unfold col shiftAdd
  pointwise [shift1]
  first
    | done
    | (by_cases h : i.val < 1
       · simp [h]
       · simp [h])

/-- Every row plus the row 2 above it. -/
def shift2 (x : FVec Ideal S64x128 .f32) : FVec Ideal S64x128 .f32 :=
  addf x (concatenate S64x128 0 [⟨S2x128, broadcast S2x128 (Scalar.ofBits .f32 0x00000000#32)⟩, ⟨S62x128, extractStridedSlice S62x128 ![0, 0] x slices_S64x128_o0_0_S62x128⟩] concatenates_S2x128_S62x128_S64x128_d0)

theorem shift2_col (x : FVec Ideal S64x128 .f32) (j : Fin 128) : col (shift2 x) j = shiftAdd 2 (col x j) := by
  funext i
  unfold col shiftAdd
  pointwise [shift2]
  first
    | done
    | (by_cases h : i.val < 2
       · simp [h]
       · simp [h])

/-- Every row plus the row 4 above it. -/
def shift4 (x : FVec Ideal S64x128 .f32) : FVec Ideal S64x128 .f32 :=
  addf x (concatenate S64x128 0 [⟨S4x128, broadcast S4x128 (Scalar.ofBits .f32 0x00000000#32)⟩, ⟨S60x128, extractStridedSlice S60x128 ![0, 0] x slices_S64x128_o0_0_S60x128⟩] concatenates_S4x128_S60x128_S64x128_d0)

theorem shift4_col (x : FVec Ideal S64x128 .f32) (j : Fin 128) : col (shift4 x) j = shiftAdd 4 (col x j) := by
  funext i
  unfold col shiftAdd
  pointwise [shift4]
  first
    | done
    | (by_cases h : i.val < 4
       · simp [h]
       · simp [h])

/-- Every row plus the row 8 above it. -/
def shift8 (x : FVec Ideal S64x128 .f32) : FVec Ideal S64x128 .f32 :=
  addf x (concatenate S64x128 0 [⟨S8x128, broadcast S8x128 (Scalar.ofBits .f32 0x00000000#32)⟩, ⟨S56x128, extractStridedSlice S56x128 ![0, 0] x slices_S64x128_o0_0_S56x128⟩] concatenates_S8x128_S56x128_S64x128_d0)

theorem shift8_col (x : FVec Ideal S64x128 .f32) (j : Fin 128) : col (shift8 x) j = shiftAdd 8 (col x j) := by
  funext i
  unfold col shiftAdd
  pointwise [shift8]
  first
    | done
    | (by_cases h : i.val < 8
       · simp [h]
       · simp [h])

/-- Every row plus the row 16 above it. -/
def shift16 (x : FVec Ideal S64x128 .f32) : FVec Ideal S64x128 .f32 :=
  addf x (concatenate S64x128 0 [⟨S16x128, broadcast S16x128 (Scalar.ofBits .f32 0x00000000#32)⟩, ⟨S48x128, extractStridedSlice S48x128 ![0, 0] x slices_S64x128_o0_0_S48x128⟩] concatenates_S16x128_S48x128_S64x128_d0)

theorem shift16_col (x : FVec Ideal S64x128 .f32) (j : Fin 128) : col (shift16 x) j = shiftAdd 16 (col x j) := by
  funext i
  unfold col shiftAdd
  pointwise [shift16]
  first
    | done
    | (by_cases h : i.val < 16
       · simp [h]
       · simp [h])

/-- Every row plus the row 32 above it. -/
def shift32 (x : FVec Ideal S64x128 .f32) : FVec Ideal S64x128 .f32 :=
  addf x (concatenate S64x128 0 [⟨S32x128, broadcast S32x128 (Scalar.ofBits .f32 0x00000000#32)⟩, ⟨S32x128, extractStridedSlice S32x128 ![0, 0] x slices_S64x128_o0_0_S32x128⟩] concatenates_S32x128_S32x128_S64x128_d0)

theorem shift32_col (x : FVec Ideal S64x128 .f32) (j : Fin 128) : col (shift32 x) j = shiftAdd 32 (col x j) := by
  funext i
  unfold col shiftAdd
  pointwise [shift32]
  first
    | done
    | (by_cases h : i.val < 32
       · simp [h]
       · simp [h])

/-- Every row plus the row 1 above it. -/
def fineShift1 (x : FVec Ideal S192x128 .f32) : FVec Ideal S192x128 .f32 :=
  addf x (concatenate S192x128 0 [⟨S1x128, broadcast S1x128 (Scalar.ofBits .f32 0x00000000#32)⟩, ⟨S191x128, extractStridedSlice S191x128 ![0, 0] x slices_S192x128_o0_0_S191x128⟩] concatenates_S1x128_S191x128_S192x128_d0)

theorem fineShift1_col (x : FVec Ideal S192x128 .f32) (j : Fin 128) : col (fineShift1 x) j = shiftAdd 1 (col x j) := by
  funext i
  unfold col shiftAdd
  pointwise [fineShift1]
  first
    | done
    | (by_cases h : i.val < 1
       · simp [h]
       · simp [h])

/-- Every row plus the row 2 above it. -/
def fineShift2 (x : FVec Ideal S192x128 .f32) : FVec Ideal S192x128 .f32 :=
  addf x (concatenate S192x128 0 [⟨S2x128, broadcast S2x128 (Scalar.ofBits .f32 0x00000000#32)⟩, ⟨S190x128, extractStridedSlice S190x128 ![0, 0] x slices_S192x128_o0_0_S190x128⟩] concatenates_S2x128_S190x128_S192x128_d0)

theorem fineShift2_col (x : FVec Ideal S192x128 .f32) (j : Fin 128) : col (fineShift2 x) j = shiftAdd 2 (col x j) := by
  funext i
  unfold col shiftAdd
  pointwise [fineShift2]
  first
    | done
    | (by_cases h : i.val < 2
       · simp [h]
       · simp [h])

/-- Every row plus the row 4 above it. -/
def fineShift4 (x : FVec Ideal S192x128 .f32) : FVec Ideal S192x128 .f32 :=
  addf x (concatenate S192x128 0 [⟨S4x128, broadcast S4x128 (Scalar.ofBits .f32 0x00000000#32)⟩, ⟨S188x128, extractStridedSlice S188x128 ![0, 0] x slices_S192x128_o0_0_S188x128⟩] concatenates_S4x128_S188x128_S192x128_d0)

theorem fineShift4_col (x : FVec Ideal S192x128 .f32) (j : Fin 128) : col (fineShift4 x) j = shiftAdd 4 (col x j) := by
  funext i
  unfold col shiftAdd
  pointwise [fineShift4]
  first
    | done
    | (by_cases h : i.val < 4
       · simp [h]
       · simp [h])

/-- Every row plus the row 8 above it. -/
def fineShift8 (x : FVec Ideal S192x128 .f32) : FVec Ideal S192x128 .f32 :=
  addf x (concatenate S192x128 0 [⟨S8x128, broadcast S8x128 (Scalar.ofBits .f32 0x00000000#32)⟩, ⟨S184x128, extractStridedSlice S184x128 ![0, 0] x slices_S192x128_o0_0_S184x128⟩] concatenates_S8x128_S184x128_S192x128_d0)

theorem fineShift8_col (x : FVec Ideal S192x128 .f32) (j : Fin 128) : col (fineShift8 x) j = shiftAdd 8 (col x j) := by
  funext i
  unfold col shiftAdd
  pointwise [fineShift8]
  first
    | done
    | (by_cases h : i.val < 8
       · simp [h]
       · simp [h])

/-- Every row plus the row 16 above it. -/
def fineShift16 (x : FVec Ideal S192x128 .f32) : FVec Ideal S192x128 .f32 :=
  addf x (concatenate S192x128 0 [⟨S16x128, broadcast S16x128 (Scalar.ofBits .f32 0x00000000#32)⟩, ⟨S176x128, extractStridedSlice S176x128 ![0, 0] x slices_S192x128_o0_0_S176x128⟩] concatenates_S16x128_S176x128_S192x128_d0)

theorem fineShift16_col (x : FVec Ideal S192x128 .f32) (j : Fin 128) : col (fineShift16 x) j = shiftAdd 16 (col x j) := by
  funext i
  unfold col shiftAdd
  pointwise [fineShift16]
  first
    | done
    | (by_cases h : i.val < 16
       · simp [h]
       · simp [h])

/-- Every row plus the row 32 above it. -/
def fineShift32 (x : FVec Ideal S192x128 .f32) : FVec Ideal S192x128 .f32 :=
  addf x (concatenate S192x128 0 [⟨S32x128, broadcast S32x128 (Scalar.ofBits .f32 0x00000000#32)⟩, ⟨S160x128, extractStridedSlice S160x128 ![0, 0] x slices_S192x128_o0_0_S160x128⟩] concatenates_S32x128_S160x128_S192x128_d0)

theorem fineShift32_col (x : FVec Ideal S192x128 .f32) (j : Fin 128) : col (fineShift32 x) j = shiftAdd 32 (col x j) := by
  funext i
  unfold col shiftAdd
  pointwise [fineShift32]
  first
    | done
    | (by_cases h : i.val < 32
       · simp [h]
       · simp [h])

/-- Every row plus the row 64 above it. -/
def fineShift64 (x : FVec Ideal S192x128 .f32) : FVec Ideal S192x128 .f32 :=
  addf x (concatenate S192x128 0 [⟨S64x128, broadcast S64x128 (Scalar.ofBits .f32 0x00000000#32)⟩, ⟨S128x128, extractStridedSlice S128x128 ![0, 0] x slices_S192x128_o0_0_S128x128⟩] concatenates_S64x128_S128x128_S192x128_d0)

theorem fineShift64_col (x : FVec Ideal S192x128 .f32) (j : Fin 128) : col (fineShift64 x) j = shiftAdd 64 (col x j) := by
  funext i
  unfold col shiftAdd
  pointwise [fineShift64]
  first
    | done
    | (by_cases h : i.val < 64
       · simp [h]
       · simp [h])

/-- Every row plus the row 128 above it. -/
def fineShift128 (x : FVec Ideal S192x128 .f32) : FVec Ideal S192x128 .f32 :=
  addf x (concatenate S192x128 0 [⟨S128x128, broadcast S128x128 (Scalar.ofBits .f32 0x00000000#32)⟩, ⟨S64x128, extractStridedSlice S64x128 ![0, 0] x slices_S192x128_o0_0_S64x128⟩] concatenates_S128x128_S64x128_S192x128_d0)

theorem fineShift128_col (x : FVec Ideal S192x128 .f32) (j : Fin 128) : col (fineShift128 x) j = shiftAdd 128 (col x j) := by
  funext i
  unfold col shiftAdd
  pointwise [fineShift128]
  first
    | done
    | (by_cases h : i.val < 128
       · simp [h]
       · simp [h])

/-- The bit 128 of the row number is not set. -/
def keep128 : IVec S256x1 1 :=
  cmpi .eq (andi (iota .tc S256x1 32 [0] iota_S256x1_d0_w32) (broadcast S256x1 128#32)) (broadcast S256x1 0#32)

/-- The merge's stage at distance 128, on every column. -/
def stage128 (x : FVec Ideal S256x128 .f32) : FVec Ideal S256x128 .f32 :=
  select (broadcastTo S256x128 (shapeCast S256x1 keep128 shapeCasts_S256x1_S256x1) broadcasts_S256x1_S256x128)
    (minimumf x (select (broadcastTo S256x128 (shapeCast S256x1 keep128 shapeCasts_S256x1_S256x1) broadcasts_S256x1_S256x128)
      (concatenate S256x128 0 [⟨S128x128, extractStridedSlice S128x128 ![128, 0] x slices_S256x128_o128_0_S128x128⟩, ⟨S128x128, extractStridedSlice S128x128 ![0, 0] x slices_S256x128_o0_0_S128x128⟩] concatenates_S128x128_S128x128_S256x128_d0)
      (concatenate S256x128 0 [⟨S128x128, extractStridedSlice S128x128 ![128, 0] x slices_S256x128_o128_0_S128x128⟩, ⟨S128x128, extractStridedSlice S128x128 ![0, 0] x slices_S256x128_o0_0_S128x128⟩] concatenates_S128x128_S128x128_S256x128_d0)))
    (maximumf x (select (broadcastTo S256x128 (shapeCast S256x1 keep128 shapeCasts_S256x1_S256x1) broadcasts_S256x1_S256x128)
      (concatenate S256x128 0 [⟨S128x128, extractStridedSlice S128x128 ![128, 0] x slices_S256x128_o128_0_S128x128⟩, ⟨S128x128, extractStridedSlice S128x128 ![0, 0] x slices_S256x128_o0_0_S128x128⟩] concatenates_S128x128_S128x128_S256x128_d0)
      (concatenate S256x128 0 [⟨S128x128, extractStridedSlice S128x128 ![128, 0] x slices_S256x128_o128_0_S128x128⟩, ⟨S128x128, extractStridedSlice S128x128 ![0, 0] x slices_S256x128_o0_0_S128x128⟩] concatenates_S128x128_S128x128_S256x128_d0)))

theorem bit128 (i : Fin 256) : IntOp.cmpi CmpIPredicate.eq (IntOp.andi (BitVec.ofNat 32 i.val) 128#32) 0#32
    = if i.val / 128 % 2 = 0 then 1#1 else 0#1 := by
  revert i
  decide +kernel

theorem stage128_col (x : FVec Ideal S256x128 .f32) (j : Fin 128) : col (stage128 x) j = stage 128 (col x j) := by
  funext i
  unfold col
  pointwise [stage128, keep128]
  rw [bit128 i]
  by_cases hk : i.val / 128 % 2 = 0
  · have e : fwd 128 i = ⟨128 + i.val, by omega⟩ :=
      Fin.ext ((fwd_val (by simp [IsDist]) hk).trans (Nat.add_comm _ _))
    rw [if_pos hk, stage_of_even _ hk, e]
    simp only [pick_one, dif_pos (show i.val < 128 by omega)]
  · have e : bwd 128 i = ⟨i.val - 128, by omega⟩ :=
      Fin.ext (Nat.eq_sub_of_add_eq (bwd_val (by simp [IsDist]) hk))
    rw [if_neg hk, stage_of_odd _ hk, e]
    simp only [pick_zero, dif_neg (show ¬ i.val < 128 by omega)]

/-- The bit 64 of the row number is not set. -/
def keep64 : IVec S256x1 1 :=
  cmpi .eq (andi (iota .tc S256x1 32 [0] iota_S256x1_d0_w32) (broadcast S256x1 64#32)) (broadcast S256x1 0#32)

/-- The merge's stage at distance 64, on every column. -/
def stage64 (x : FVec Ideal S256x128 .f32) : FVec Ideal S256x128 .f32 :=
  select (broadcastTo S256x128 (shapeCast S256x1 keep64 shapeCasts_S256x1_S256x1) broadcasts_S256x1_S256x128)
    (minimumf x (select (broadcastTo S256x128 (shapeCast S256x1 keep64 shapeCasts_S256x1_S256x1) broadcasts_S256x1_S256x128)
      (concatenate S256x128 0 [⟨S192x128, extractStridedSlice S192x128 ![64, 0] x slices_S256x128_o64_0_S192x128⟩, ⟨S64x128, extractStridedSlice S64x128 ![0, 0] x slices_S256x128_o0_0_S64x128⟩] concatenates_S192x128_S64x128_S256x128_d0)
      (concatenate S256x128 0 [⟨S64x128, extractStridedSlice S64x128 ![192, 0] x slices_S256x128_o192_0_S64x128⟩, ⟨S192x128, extractStridedSlice S192x128 ![0, 0] x slices_S256x128_o0_0_S192x128⟩] concatenates_S64x128_S192x128_S256x128_d0)))
    (maximumf x (select (broadcastTo S256x128 (shapeCast S256x1 keep64 shapeCasts_S256x1_S256x1) broadcasts_S256x1_S256x128)
      (concatenate S256x128 0 [⟨S192x128, extractStridedSlice S192x128 ![64, 0] x slices_S256x128_o64_0_S192x128⟩, ⟨S64x128, extractStridedSlice S64x128 ![0, 0] x slices_S256x128_o0_0_S64x128⟩] concatenates_S192x128_S64x128_S256x128_d0)
      (concatenate S256x128 0 [⟨S64x128, extractStridedSlice S64x128 ![192, 0] x slices_S256x128_o192_0_S64x128⟩, ⟨S192x128, extractStridedSlice S192x128 ![0, 0] x slices_S256x128_o0_0_S192x128⟩] concatenates_S64x128_S192x128_S256x128_d0)))

theorem bit64 (i : Fin 256) : IntOp.cmpi CmpIPredicate.eq (IntOp.andi (BitVec.ofNat 32 i.val) 64#32) 0#32
    = if i.val / 64 % 2 = 0 then 1#1 else 0#1 := by
  revert i
  decide +kernel

theorem stage64_col (x : FVec Ideal S256x128 .f32) (j : Fin 128) : col (stage64 x) j = stage 64 (col x j) := by
  funext i
  unfold col
  pointwise [stage64, keep64]
  rw [bit64 i]
  by_cases hk : i.val / 64 % 2 = 0
  · have e : fwd 64 i = ⟨64 + i.val, by omega⟩ :=
      Fin.ext ((fwd_val (by simp [IsDist]) hk).trans (Nat.add_comm _ _))
    rw [if_pos hk, stage_of_even _ hk, e]
    simp only [pick_one, dif_pos (show i.val < 192 by omega)]
  · have e : bwd 64 i = ⟨i.val - 64, by omega⟩ :=
      Fin.ext (Nat.eq_sub_of_add_eq (bwd_val (by simp [IsDist]) hk))
    rw [if_neg hk, stage_of_odd _ hk, e]
    simp only [pick_zero, dif_neg (show ¬ i.val < 64 by omega)]

/-- The bit 32 of the row number is not set. -/
def keep32 : IVec S256x1 1 :=
  cmpi .eq (andi (iota .tc S256x1 32 [0] iota_S256x1_d0_w32) (broadcast S256x1 32#32)) (broadcast S256x1 0#32)

/-- The merge's stage at distance 32, on every column. -/
def stage32 (x : FVec Ideal S256x128 .f32) : FVec Ideal S256x128 .f32 :=
  select (broadcastTo S256x128 (shapeCast S256x1 keep32 shapeCasts_S256x1_S256x1) broadcasts_S256x1_S256x128)
    (minimumf x (select (broadcastTo S256x128 (shapeCast S256x1 keep32 shapeCasts_S256x1_S256x1) broadcasts_S256x1_S256x128)
      (concatenate S256x128 0 [⟨S224x128, extractStridedSlice S224x128 ![32, 0] x slices_S256x128_o32_0_S224x128⟩, ⟨S32x128, extractStridedSlice S32x128 ![0, 0] x slices_S256x128_o0_0_S32x128⟩] concatenates_S224x128_S32x128_S256x128_d0)
      (concatenate S256x128 0 [⟨S32x128, extractStridedSlice S32x128 ![224, 0] x slices_S256x128_o224_0_S32x128⟩, ⟨S224x128, extractStridedSlice S224x128 ![0, 0] x slices_S256x128_o0_0_S224x128⟩] concatenates_S32x128_S224x128_S256x128_d0)))
    (maximumf x (select (broadcastTo S256x128 (shapeCast S256x1 keep32 shapeCasts_S256x1_S256x1) broadcasts_S256x1_S256x128)
      (concatenate S256x128 0 [⟨S224x128, extractStridedSlice S224x128 ![32, 0] x slices_S256x128_o32_0_S224x128⟩, ⟨S32x128, extractStridedSlice S32x128 ![0, 0] x slices_S256x128_o0_0_S32x128⟩] concatenates_S224x128_S32x128_S256x128_d0)
      (concatenate S256x128 0 [⟨S32x128, extractStridedSlice S32x128 ![224, 0] x slices_S256x128_o224_0_S32x128⟩, ⟨S224x128, extractStridedSlice S224x128 ![0, 0] x slices_S256x128_o0_0_S224x128⟩] concatenates_S32x128_S224x128_S256x128_d0)))

theorem bit32 (i : Fin 256) : IntOp.cmpi CmpIPredicate.eq (IntOp.andi (BitVec.ofNat 32 i.val) 32#32) 0#32
    = if i.val / 32 % 2 = 0 then 1#1 else 0#1 := by
  revert i
  decide +kernel

theorem stage32_col (x : FVec Ideal S256x128 .f32) (j : Fin 128) : col (stage32 x) j = stage 32 (col x j) := by
  funext i
  unfold col
  pointwise [stage32, keep32]
  rw [bit32 i]
  by_cases hk : i.val / 32 % 2 = 0
  · have e : fwd 32 i = ⟨32 + i.val, by omega⟩ :=
      Fin.ext ((fwd_val (by simp [IsDist]) hk).trans (Nat.add_comm _ _))
    rw [if_pos hk, stage_of_even _ hk, e]
    simp only [pick_one, dif_pos (show i.val < 224 by omega)]
  · have e : bwd 32 i = ⟨i.val - 32, by omega⟩ :=
      Fin.ext (Nat.eq_sub_of_add_eq (bwd_val (by simp [IsDist]) hk))
    rw [if_neg hk, stage_of_odd _ hk, e]
    simp only [pick_zero, dif_neg (show ¬ i.val < 32 by omega)]

/-- The bit 16 of the row number is not set. -/
def keep16 : IVec S256x1 1 :=
  cmpi .eq (andi (iota .tc S256x1 32 [0] iota_S256x1_d0_w32) (broadcast S256x1 16#32)) (broadcast S256x1 0#32)

/-- The merge's stage at distance 16, on every column. -/
def stage16 (x : FVec Ideal S256x128 .f32) : FVec Ideal S256x128 .f32 :=
  select (broadcastTo S256x128 (shapeCast S256x1 keep16 shapeCasts_S256x1_S256x1) broadcasts_S256x1_S256x128)
    (minimumf x (select (broadcastTo S256x128 (shapeCast S256x1 keep16 shapeCasts_S256x1_S256x1) broadcasts_S256x1_S256x128)
      (concatenate S256x128 0 [⟨S240x128, extractStridedSlice S240x128 ![16, 0] x slices_S256x128_o16_0_S240x128⟩, ⟨S16x128, extractStridedSlice S16x128 ![0, 0] x slices_S256x128_o0_0_S16x128⟩] concatenates_S240x128_S16x128_S256x128_d0)
      (concatenate S256x128 0 [⟨S16x128, extractStridedSlice S16x128 ![240, 0] x slices_S256x128_o240_0_S16x128⟩, ⟨S240x128, extractStridedSlice S240x128 ![0, 0] x slices_S256x128_o0_0_S240x128⟩] concatenates_S16x128_S240x128_S256x128_d0)))
    (maximumf x (select (broadcastTo S256x128 (shapeCast S256x1 keep16 shapeCasts_S256x1_S256x1) broadcasts_S256x1_S256x128)
      (concatenate S256x128 0 [⟨S240x128, extractStridedSlice S240x128 ![16, 0] x slices_S256x128_o16_0_S240x128⟩, ⟨S16x128, extractStridedSlice S16x128 ![0, 0] x slices_S256x128_o0_0_S16x128⟩] concatenates_S240x128_S16x128_S256x128_d0)
      (concatenate S256x128 0 [⟨S16x128, extractStridedSlice S16x128 ![240, 0] x slices_S256x128_o240_0_S16x128⟩, ⟨S240x128, extractStridedSlice S240x128 ![0, 0] x slices_S256x128_o0_0_S240x128⟩] concatenates_S16x128_S240x128_S256x128_d0)))

theorem bit16 (i : Fin 256) : IntOp.cmpi CmpIPredicate.eq (IntOp.andi (BitVec.ofNat 32 i.val) 16#32) 0#32
    = if i.val / 16 % 2 = 0 then 1#1 else 0#1 := by
  revert i
  decide +kernel

theorem stage16_col (x : FVec Ideal S256x128 .f32) (j : Fin 128) : col (stage16 x) j = stage 16 (col x j) := by
  funext i
  unfold col
  pointwise [stage16, keep16]
  rw [bit16 i]
  by_cases hk : i.val / 16 % 2 = 0
  · have e : fwd 16 i = ⟨16 + i.val, by omega⟩ :=
      Fin.ext ((fwd_val (by simp [IsDist]) hk).trans (Nat.add_comm _ _))
    rw [if_pos hk, stage_of_even _ hk, e]
    simp only [pick_one, dif_pos (show i.val < 240 by omega)]
  · have e : bwd 16 i = ⟨i.val - 16, by omega⟩ :=
      Fin.ext (Nat.eq_sub_of_add_eq (bwd_val (by simp [IsDist]) hk))
    rw [if_neg hk, stage_of_odd _ hk, e]
    simp only [pick_zero, dif_neg (show ¬ i.val < 16 by omega)]

/-- The bit 8 of the row number is not set. -/
def keep8 : IVec S256x1 1 :=
  cmpi .eq (andi (iota .tc S256x1 32 [0] iota_S256x1_d0_w32) (broadcast S256x1 8#32)) (broadcast S256x1 0#32)

/-- The merge's stage at distance 8, on every column. -/
def stage8 (x : FVec Ideal S256x128 .f32) : FVec Ideal S256x128 .f32 :=
  select (broadcastTo S256x128 (shapeCast S256x1 keep8 shapeCasts_S256x1_S256x1) broadcasts_S256x1_S256x128)
    (minimumf x (select (broadcastTo S256x128 (shapeCast S256x1 keep8 shapeCasts_S256x1_S256x1) broadcasts_S256x1_S256x128)
      (concatenate S256x128 0 [⟨S248x128, extractStridedSlice S248x128 ![8, 0] x slices_S256x128_o8_0_S248x128⟩, ⟨S8x128, extractStridedSlice S8x128 ![0, 0] x slices_S256x128_o0_0_S8x128⟩] concatenates_S248x128_S8x128_S256x128_d0)
      (concatenate S256x128 0 [⟨S8x128, extractStridedSlice S8x128 ![248, 0] x slices_S256x128_o248_0_S8x128⟩, ⟨S248x128, extractStridedSlice S248x128 ![0, 0] x slices_S256x128_o0_0_S248x128⟩] concatenates_S8x128_S248x128_S256x128_d0)))
    (maximumf x (select (broadcastTo S256x128 (shapeCast S256x1 keep8 shapeCasts_S256x1_S256x1) broadcasts_S256x1_S256x128)
      (concatenate S256x128 0 [⟨S248x128, extractStridedSlice S248x128 ![8, 0] x slices_S256x128_o8_0_S248x128⟩, ⟨S8x128, extractStridedSlice S8x128 ![0, 0] x slices_S256x128_o0_0_S8x128⟩] concatenates_S248x128_S8x128_S256x128_d0)
      (concatenate S256x128 0 [⟨S8x128, extractStridedSlice S8x128 ![248, 0] x slices_S256x128_o248_0_S8x128⟩, ⟨S248x128, extractStridedSlice S248x128 ![0, 0] x slices_S256x128_o0_0_S248x128⟩] concatenates_S8x128_S248x128_S256x128_d0)))

theorem bit8 (i : Fin 256) : IntOp.cmpi CmpIPredicate.eq (IntOp.andi (BitVec.ofNat 32 i.val) 8#32) 0#32
    = if i.val / 8 % 2 = 0 then 1#1 else 0#1 := by
  revert i
  decide +kernel

theorem stage8_col (x : FVec Ideal S256x128 .f32) (j : Fin 128) : col (stage8 x) j = stage 8 (col x j) := by
  funext i
  unfold col
  pointwise [stage8, keep8]
  rw [bit8 i]
  by_cases hk : i.val / 8 % 2 = 0
  · have e : fwd 8 i = ⟨8 + i.val, by omega⟩ :=
      Fin.ext ((fwd_val (by simp [IsDist]) hk).trans (Nat.add_comm _ _))
    rw [if_pos hk, stage_of_even _ hk, e]
    simp only [pick_one, dif_pos (show i.val < 248 by omega)]
  · have e : bwd 8 i = ⟨i.val - 8, by omega⟩ :=
      Fin.ext (Nat.eq_sub_of_add_eq (bwd_val (by simp [IsDist]) hk))
    rw [if_neg hk, stage_of_odd _ hk, e]
    simp only [pick_zero, dif_neg (show ¬ i.val < 8 by omega)]

/-- The bit 4 of the row number is not set. -/
def keep4 : IVec S256x1 1 :=
  cmpi .eq (andi (iota .tc S256x1 32 [0] iota_S256x1_d0_w32) (broadcast S256x1 4#32)) (broadcast S256x1 0#32)

/-- The merge's stage at distance 4, on every column. -/
def stage4 (x : FVec Ideal S256x128 .f32) : FVec Ideal S256x128 .f32 :=
  select (broadcastTo S256x128 (shapeCast S256x1 keep4 shapeCasts_S256x1_S256x1) broadcasts_S256x1_S256x128)
    (minimumf x (select (broadcastTo S256x128 (shapeCast S256x1 keep4 shapeCasts_S256x1_S256x1) broadcasts_S256x1_S256x128)
      (concatenate S256x128 0 [⟨S252x128, extractStridedSlice S252x128 ![4, 0] x slices_S256x128_o4_0_S252x128⟩, ⟨S4x128, extractStridedSlice S4x128 ![0, 0] x slices_S256x128_o0_0_S4x128⟩] concatenates_S252x128_S4x128_S256x128_d0)
      (concatenate S256x128 0 [⟨S4x128, extractStridedSlice S4x128 ![252, 0] x slices_S256x128_o252_0_S4x128⟩, ⟨S252x128, extractStridedSlice S252x128 ![0, 0] x slices_S256x128_o0_0_S252x128⟩] concatenates_S4x128_S252x128_S256x128_d0)))
    (maximumf x (select (broadcastTo S256x128 (shapeCast S256x1 keep4 shapeCasts_S256x1_S256x1) broadcasts_S256x1_S256x128)
      (concatenate S256x128 0 [⟨S252x128, extractStridedSlice S252x128 ![4, 0] x slices_S256x128_o4_0_S252x128⟩, ⟨S4x128, extractStridedSlice S4x128 ![0, 0] x slices_S256x128_o0_0_S4x128⟩] concatenates_S252x128_S4x128_S256x128_d0)
      (concatenate S256x128 0 [⟨S4x128, extractStridedSlice S4x128 ![252, 0] x slices_S256x128_o252_0_S4x128⟩, ⟨S252x128, extractStridedSlice S252x128 ![0, 0] x slices_S256x128_o0_0_S252x128⟩] concatenates_S4x128_S252x128_S256x128_d0)))

theorem bit4 (i : Fin 256) : IntOp.cmpi CmpIPredicate.eq (IntOp.andi (BitVec.ofNat 32 i.val) 4#32) 0#32
    = if i.val / 4 % 2 = 0 then 1#1 else 0#1 := by
  revert i
  decide +kernel

theorem stage4_col (x : FVec Ideal S256x128 .f32) (j : Fin 128) : col (stage4 x) j = stage 4 (col x j) := by
  funext i
  unfold col
  pointwise [stage4, keep4]
  rw [bit4 i]
  by_cases hk : i.val / 4 % 2 = 0
  · have e : fwd 4 i = ⟨4 + i.val, by omega⟩ :=
      Fin.ext ((fwd_val (by simp [IsDist]) hk).trans (Nat.add_comm _ _))
    rw [if_pos hk, stage_of_even _ hk, e]
    simp only [pick_one, dif_pos (show i.val < 252 by omega)]
  · have e : bwd 4 i = ⟨i.val - 4, by omega⟩ :=
      Fin.ext (Nat.eq_sub_of_add_eq (bwd_val (by simp [IsDist]) hk))
    rw [if_neg hk, stage_of_odd _ hk, e]
    simp only [pick_zero, dif_neg (show ¬ i.val < 4 by omega)]

/-- The bit 2 of the row number is not set. -/
def keep2 : IVec S256x1 1 :=
  cmpi .eq (andi (iota .tc S256x1 32 [0] iota_S256x1_d0_w32) (broadcast S256x1 2#32)) (broadcast S256x1 0#32)

/-- The merge's stage at distance 2, on every column. -/
def stage2 (x : FVec Ideal S256x128 .f32) : FVec Ideal S256x128 .f32 :=
  select (broadcastTo S256x128 (shapeCast S256x1 keep2 shapeCasts_S256x1_S256x1) broadcasts_S256x1_S256x128)
    (minimumf x (select (broadcastTo S256x128 (shapeCast S256x1 keep2 shapeCasts_S256x1_S256x1) broadcasts_S256x1_S256x128)
      (concatenate S256x128 0 [⟨S254x128, extractStridedSlice S254x128 ![2, 0] x slices_S256x128_o2_0_S254x128⟩, ⟨S2x128, extractStridedSlice S2x128 ![0, 0] x slices_S256x128_o0_0_S2x128⟩] concatenates_S254x128_S2x128_S256x128_d0)
      (concatenate S256x128 0 [⟨S2x128, extractStridedSlice S2x128 ![254, 0] x slices_S256x128_o254_0_S2x128⟩, ⟨S254x128, extractStridedSlice S254x128 ![0, 0] x slices_S256x128_o0_0_S254x128⟩] concatenates_S2x128_S254x128_S256x128_d0)))
    (maximumf x (select (broadcastTo S256x128 (shapeCast S256x1 keep2 shapeCasts_S256x1_S256x1) broadcasts_S256x1_S256x128)
      (concatenate S256x128 0 [⟨S254x128, extractStridedSlice S254x128 ![2, 0] x slices_S256x128_o2_0_S254x128⟩, ⟨S2x128, extractStridedSlice S2x128 ![0, 0] x slices_S256x128_o0_0_S2x128⟩] concatenates_S254x128_S2x128_S256x128_d0)
      (concatenate S256x128 0 [⟨S2x128, extractStridedSlice S2x128 ![254, 0] x slices_S256x128_o254_0_S2x128⟩, ⟨S254x128, extractStridedSlice S254x128 ![0, 0] x slices_S256x128_o0_0_S254x128⟩] concatenates_S2x128_S254x128_S256x128_d0)))

theorem bit2 (i : Fin 256) : IntOp.cmpi CmpIPredicate.eq (IntOp.andi (BitVec.ofNat 32 i.val) 2#32) 0#32
    = if i.val / 2 % 2 = 0 then 1#1 else 0#1 := by
  revert i
  decide +kernel

theorem stage2_col (x : FVec Ideal S256x128 .f32) (j : Fin 128) : col (stage2 x) j = stage 2 (col x j) := by
  funext i
  unfold col
  pointwise [stage2, keep2]
  rw [bit2 i]
  by_cases hk : i.val / 2 % 2 = 0
  · have e : fwd 2 i = ⟨2 + i.val, by omega⟩ :=
      Fin.ext ((fwd_val (by simp [IsDist]) hk).trans (Nat.add_comm _ _))
    rw [if_pos hk, stage_of_even _ hk, e]
    simp only [pick_one, dif_pos (show i.val < 254 by omega)]
  · have e : bwd 2 i = ⟨i.val - 2, by omega⟩ :=
      Fin.ext (Nat.eq_sub_of_add_eq (bwd_val (by simp [IsDist]) hk))
    rw [if_neg hk, stage_of_odd _ hk, e]
    simp only [pick_zero, dif_neg (show ¬ i.val < 2 by omega)]

/-- The bit 1 of the row number is not set. -/
def keep1 : IVec S256x1 1 :=
  cmpi .eq (andi (iota .tc S256x1 32 [0] iota_S256x1_d0_w32) (broadcast S256x1 1#32)) (broadcast S256x1 0#32)

/-- The merge's stage at distance 1, on every column. -/
def stage1 (x : FVec Ideal S256x128 .f32) : FVec Ideal S256x128 .f32 :=
  select (broadcastTo S256x128 (shapeCast S256x1 keep1 shapeCasts_S256x1_S256x1) broadcasts_S256x1_S256x128)
    (minimumf x (select (broadcastTo S256x128 (shapeCast S256x1 keep1 shapeCasts_S256x1_S256x1) broadcasts_S256x1_S256x128)
      (concatenate S256x128 0 [⟨S255x128, extractStridedSlice S255x128 ![1, 0] x slices_S256x128_o1_0_S255x128⟩, ⟨S1x128, extractStridedSlice S1x128 ![0, 0] x slices_S256x128_o0_0_S1x128⟩] concatenates_S255x128_S1x128_S256x128_d0)
      (concatenate S256x128 0 [⟨S1x128, extractStridedSlice S1x128 ![255, 0] x slices_S256x128_o255_0_S1x128⟩, ⟨S255x128, extractStridedSlice S255x128 ![0, 0] x slices_S256x128_o0_0_S255x128⟩] concatenates_S1x128_S255x128_S256x128_d0)))
    (maximumf x (select (broadcastTo S256x128 (shapeCast S256x1 keep1 shapeCasts_S256x1_S256x1) broadcasts_S256x1_S256x128)
      (concatenate S256x128 0 [⟨S255x128, extractStridedSlice S255x128 ![1, 0] x slices_S256x128_o1_0_S255x128⟩, ⟨S1x128, extractStridedSlice S1x128 ![0, 0] x slices_S256x128_o0_0_S1x128⟩] concatenates_S255x128_S1x128_S256x128_d0)
      (concatenate S256x128 0 [⟨S1x128, extractStridedSlice S1x128 ![255, 0] x slices_S256x128_o255_0_S1x128⟩, ⟨S255x128, extractStridedSlice S255x128 ![0, 0] x slices_S256x128_o0_0_S255x128⟩] concatenates_S1x128_S255x128_S256x128_d0)))

theorem bit1 (i : Fin 256) : IntOp.cmpi CmpIPredicate.eq (IntOp.andi (BitVec.ofNat 32 i.val) 1#32) 0#32
    = if i.val / 1 % 2 = 0 then 1#1 else 0#1 := by
  revert i
  decide +kernel

theorem stage1_col (x : FVec Ideal S256x128 .f32) (j : Fin 128) : col (stage1 x) j = stage 1 (col x j) := by
  funext i
  unfold col
  pointwise [stage1, keep1]
  rw [bit1 i]
  by_cases hk : i.val / 1 % 2 = 0
  · have e : fwd 1 i = ⟨1 + i.val, by omega⟩ :=
      Fin.ext ((fwd_val (by simp [IsDist]) hk).trans (Nat.add_comm _ _))
    rw [if_pos hk, stage_of_even _ hk, e]
    simp only [pick_one, dif_pos (show i.val < 255 by omega)]
  · have e : bwd 1 i = ⟨i.val - 1, by omega⟩ :=
      Fin.ext (Nat.eq_sub_of_add_eq (bwd_val (by simp [IsDist]) hk))
    rw [if_neg hk, stage_of_odd _ hk, e]
    simp only [pick_zero, dif_neg (show ¬ i.val < 1 by omega)]

end Cert.Nerf.Body

end

end
-- ==== Proof.Coarse.lean ====
/- The second kernel's body read at an index: the coarse colours, and the sorted sample positions of the fine pass. -/
module

public import proofs.«01_k».proof.Proof.Steps

@[expose] public section

set_option maxRecDepth 16384

noncomputable section

namespace Cert.Nerf.Body

open Idealize.ShloMosaic Idealize.SL.Sem
open Cert.KernelIdeal Cert.KernelIdeal.Gen

/-- The length of the direction in column `j`. -/
def len {m : ℕ} (d : (⟨2, ![3, m]⟩ : Shape).Idx → EReal) (j : Fin m) : EReal :=
  Ideal.sqrt (∑ x : Fin 3, d (ix2 x j) * d (ix2 x j))

/-- The sample positions of the coarse pass. -/
def depths {n : ℕ} (near far : EReal) (t : Fin n → EReal) (i : Fin n) : EReal := near * (1 - t i) + far * t i

section
variable (d : Vec Ideal S3x128 .f32) (b c : Vec Ideal S2x128 .f32) (t : Vec Ideal S64x1 .f32) (s : Vec Ideal S64x128 .f32)

theorem depths_col (j : Fin 128) :
    col (k1_pay1 b c t) j = depths (b (ix2 0 j)) (c (ix2 1 j)) (fun i => t (ix2 i 0)) := by
  funext i
  unfold col depths
  pointwise [k1_pay1]

theorem step_at (i : Fin 63) (j : Fin 128) : k1_pay2 b c t (ix2 i j)
    = col (k1_pay1 b c t) j ⟨i.val + 1, by omega⟩ - col (k1_pay1 b c t) j ⟨i.val, by omega⟩ := by
  unfold col
  pointwise [k1_pay2]
  simp only [Nat.add_comm 1]

theorem atten_col (j : Fin 128) : col (k1_pay3 d b c t s) j = atten (col s j) (col (k1_pay1 b c t) j) (len d j) := by
  funext i
  unfold col
  pointwise [k1_pay3]
  unfold atten gap len
  rw [zero_sub]
  by_cases h : i.val < 63
  · rw [dif_pos h, dif_pos (show i.val + 1 < 64 by omega), step_at]
  · rw [dif_neg h, dif_neg (show ¬ i.val + 1 < 64 by omega)]
    rfl

theorem alpha_col (j : Fin 128) (i : Fin 64) :
    k1_pay4 d b c t s (ix2 i j) = 1 - atten (col s j) (col (k1_pay1 b c t) j) (len d j) i := by
  pointwise [k1_pay4]
  rw [← atten_col]

theorem factor_col (j : Fin 128) :
    col (k1_pay5 d b c t s) j = fun i => atten (col s j) (col (k1_pay1 b c t) j) (len d j) i + tiny := by
  funext i
  unfold col
  pointwise [k1_pay5]
  rw [← atten_col]
  rfl

/-- The running sum of six shifted additions. -/
def sums (x : FVec Ideal S64x128 .f32) : FVec Ideal S64x128 .f32 :=
  shift32 (shift16 (shift8 (shift4 (shift2 (shift1 x)))))

theorem sums_col (x : FVec Ideal S64x128 .f32) (j : Fin 128) : col (sums x) j = upto (col x j) := by
  unfold sums
  rw [shift32_col, shift16_col, shift8_col, shift4_col, shift2_col, shift1_col, six_shifts]

theorem absorbed_eq (a f : FVec Ideal S64x128 .f32) : k1_pay6 a f = mulf a (exp (concatenate S64x128 0
    [⟨S1x128, broadcast S1x128 (Scalar.ofBits .f32 0x00000000#32)⟩,
      ⟨S63x128, extractStridedSlice S63x128 ![0, 0] (sums (log f)) slices_S64x128_o0_0_S63x128⟩]
    concatenates_S1x128_S63x128_S64x128_d0)) := rfl

theorem absorbed_at (a f : FVec Ideal S64x128 .f32) (j : Fin 128) (hf : ∀ i, 0 < col f j i) (i : Fin 64) :
    k1_pay6 a f (ix2 i j) = a (ix2 i j) * before (col f j) i := by
  rw [absorbed_eq, ← exp_shifted_upto _ hf i]
  pointwise []
  congr 2
  by_cases h : i.val < 1
  · rw [dif_pos h, if_pos h]
  · rw [dif_neg h, if_neg h]
    have e := congrFun (sums_col (log f) j) ⟨i.val - 1, by omega⟩
    exact e

/-- The weights the body computes. -/
abbrev weights : FVec Ideal S64x128 .f32 := k1_pay6 (k1_pay4 d b c t s) (k1_pay5 d b c t s)

theorem weights_col (j : Fin 128) :
    col (weights d b c t s) j = weight (col s j) (col (k1_pay1 b c t) j) (len d j) := by
  funext i
  unfold col weights
  rw [absorbed_at _ _ j (fun i => by rw [factor_col]; exact factor_pos _ _ _ _), factor_col, alpha_col]
  rfl

end

theorem red_at (a f x : FVec Ideal S64x128 .f32) (j : Fin 128) :
    k1_pay7 a f x (ix2 0 j) = colour (col (k1_pay6 a f) j) (col x j) := by
  unfold colour squash
  pointwise [k1_pay7]
  simp only [zero_sub]

/-- The three colour rows. -/
theorem colours_at (a f x y z : FVec Ideal S64x128 .f32) (j : Fin 128) (k : Fin 3) :
    k1_pay9 (k1_pay6 a f) (k1_pay7 a f x) (k1_pay8 y) (Scalar.ofBits .f32 0x00000000#32) z (ix2 k j)
      = colour (col (k1_pay6 a f) j) (col (![x, y, z] k) j) := by
  have hy : k1_pay8 y = y := by
    funext i; idx_vars i; pointwise [k1_pay8]
  rw [hy]
  fin_cases k
  · exact Eq.trans (by pointwise [k1_pay9]) (red_at a f x j)
  · unfold colour squash
    pointwise [k1_pay9]
    simp
  · unfold colour squash
    pointwise [k1_pay9]
    simp

/-! ## Sampling -/

section
variable (w : FVec Ideal S64x128 .f32) (u : Vec Ideal S128x1 .f32)

theorem share_col (j : Fin 128) : col (k1_pay10 w) j = share (col w j) := by
  funext i
  unfold col share
  pointwise [k1_pay10]
  rfl

theorem running_eq : k1_pay12 (F := Ideal) (k1_pay11 w) (Scalar.ofBits .f32 0x00000000#32) = sums (k1_pay10 w) := rfl

theorem running_col (j : Fin 128) : col (k1_pay12 (F := Ideal) (k1_pay11 w) (Scalar.ofBits .f32 0x00000000#32)) j = upto (share (col w j)) := by
  rw [running_eq, sums_col, share_col]

theorem zero_word : (FloatOps.ofBits .f32 0x00000000#32 : Ideal .f32) = (0 : EReal) := Ideal.ofBits_zero_f32

/-- The share of the sample row `r` that is not above it, as a number. -/
abbrev marks : FVec Ideal S64x128x128 .f32 := k1_pay14 (k1_pay11 w) (Scalar.ofBits .f32 0x00000000#32) u

theorem number_of_bit (p : Prop) [Decidable p] :
    (FloatOps.sitofp .f32 (BitVec.setWidth 32 (BitVec.ofBool (decide p))) : Ideal .f32) = if p then (1 : EReal) else 0 := by
  by_cases h : p
  · simp only [h, decide_true, if_true]
    show (((BitVec.setWidth 32 (BitVec.ofBool true)).toInt : ℝ) : EReal) = 1
    have e : (BitVec.setWidth 32 (BitVec.ofBool true)).toInt = 1 := by decide
    rw [e]; norm_num
  · simp only [h, decide_false, if_false]
    show (((BitVec.setWidth 32 (BitVec.ofBool false)).toInt : ℝ) : EReal) = 0
    have e : (BitVec.setWidth 32 (BitVec.ofBool false)).toInt = 0 := by decide
    rw [e]; norm_num

theorem marks_at (k : Fin 64) (r j : Fin 128) :
    marks w u (ix3 k r j) = hit (share (col w j)) (u (ix2 r 0)) k := by
  unfold marks
  pointwise [k1_pay14, k1_pay13]
  rw [number_of_bit]
  unfold hit
  rw [← running_col]
  simp only [col, zero_word]

variable (z : FVec Ideal S64x128 .f32) (dz : FVec Ideal S63x128 .f32)

theorem low_mass_at (r j : Fin 128) :
    k1_pay16 (k1_pay10 w) (k1_pay11 w) (Scalar.ofBits .f32 0x00000000#32) u (ix2 r j)
      = ∑ k, share (col w j) k * hit (share (col w j)) (u (ix2 r 0)) k := by
  have h : k1_pay16 (k1_pay10 w) (k1_pay11 w) (Scalar.ofBits .f32 0x00000000#32) u (ix2 r j)
      = ∑ k, k1_pay10 w (ix2 k j) * marks w u (ix3 k r j) := by
    pointwise [k1_pay16]
    simp only [marks, zero_word]
  rw [h]
  exact Finset.sum_congr rfl fun k _ => by rw [marks_at, ← share_col]

theorem high_mass_at (r j : Fin 128) :
    k1_pay17 (k1_pay10 w) (k1_pay11 w) (Scalar.ofBits .f32 0x00000000#32) u (ix2 r j)
      = upto (share (col w j)) 0 + ∑ k : Fin 64, (if h : k.val < 63 then share (col w j) ⟨k.val + 1, by omega⟩ else 0)
          * hit (share (col w j)) (u (ix2 r 0)) k := by
  have h : k1_pay17 (k1_pay10 w) (k1_pay11 w) (Scalar.ofBits .f32 0x00000000#32) u (ix2 r j)
      = k1_pay12 (k1_pay11 w) (Scalar.ofBits .f32 0x00000000#32) (ix2 0 j)
        + (∑ k : Fin 63, k1_pay10 w (ix2 ⟨1 + k.val, by omega⟩ j) * marks w u (ix3 ⟨k.val, by omega⟩ r j)
          + ∑ _ : Fin 1, 0 * marks w u (ix3 63 r j)) := by
    pointwise [k1_pay17, k1_pay15]
    simp only [marks, zero_word]
  rw [h, Fin.sum_univ_castSucc (n := 63), ← running_col]
  congr 2
  · refine Finset.sum_congr rfl fun k _ => ?_
    rw [marks_at, dif_pos (show k.castSucc.val < 63 from k.isLt), ← share_col]
    simp only [Nat.add_comm 1]
    rfl
  · simp [Fin.last]

theorem low_edge_at (r j : Fin 128) :
    k1_pay18 z dz (k1_pay11 w) (Scalar.ofBits .f32 0x00000000#32) u (ix2 r j)
      = z (ix2 0 j) + ∑ k : Fin 64, (if h : k.val < 63 then dz (ix2 ⟨k.val, h⟩ j) else 0)
          * hit (share (col w j)) (u (ix2 r 0)) k := by
  have h : k1_pay18 z dz (k1_pay11 w) (Scalar.ofBits .f32 0x00000000#32) u (ix2 r j)
      = z (ix2 0 j) + (∑ k : Fin 63, dz (ix2 k j) * marks w u (ix3 ⟨k.val, by omega⟩ r j)
          + ∑ _ : Fin 1, 0 * marks w u (ix3 63 r j)) := by
    pointwise [k1_pay18, k1_pay15]
    simp only [marks, zero_word]
  rw [h, Fin.sum_univ_castSucc (n := 63)]
  congr 2
  · refine Finset.sum_congr rfl fun k _ => ?_
    rw [marks_at, dif_pos (show k.castSucc.val < 63 from k.isLt)]
    rfl
  · simp [Fin.last]

theorem high_edge_at (r j : Fin 128) :
    k1_pay19 dz (k1_pay11 w) (Scalar.ofBits .f32 0x00000000#32) u (ix2 r j)
      = ∑ k : Fin 64, (if h : k.val < 62 then dz (ix2 ⟨k.val + 1, by omega⟩ j) else 0)
          * hit (share (col w j)) (u (ix2 r 0)) k := by
  have h : k1_pay19 dz (k1_pay11 w) (Scalar.ofBits .f32 0x00000000#32) u (ix2 r j)
      = ∑ k : Fin 64, (if h : k.val < 62 then dz (ix2 ⟨1 + k.val, by omega⟩ j)
          else if _ : k.val - 62 < 1 then 0 else 0) * marks w u (ix3 k r j) := by
    pointwise [k1_pay19, k1_pay15]
    simp only [marks, zero_word]
  rw [h]
  refine Finset.sum_congr rfl fun k _ => ?_
  rw [marks_at]
  congr 1
  by_cases hk : k.val < 62
  · rw [dif_pos hk, dif_pos hk]; simp only [Nat.add_comm 1]
  · rw [dif_neg hk, dif_neg hk]; split <;> rfl

end

section
variable (b c : Vec Ideal S2x128 .f32) (t : Vec Ideal S64x1 .f32) (w : FVec Ideal S64x128 .f32) (u : Vec Ideal S128x1 .f32)

/-- The samples of the body, row by row. -/
def samples (z : FVec Ideal S64x128 .f32) (u' : FVec Ideal S128x1 .f32) (g0 g1 b0 b1 b1' : FVec Ideal S128x128 .f32) :
    FVec Ideal S128x128 .f32 :=
  addf b0 (mulf (divf (subf (broadcastTo S128x128 u' broadcasts_S128x1_S128x128) g0)
    (select (cmpf .olt (subf g1 g0) (broadcast S128x128 (Scalar.ofBits .f32 0x3727C5AC#32)))
      (broadcast S128x128 (Scalar.ofBits .f32 0x3F800000#32)) (subf g1 g0))) (subf (addf b1' b1) b0))

/-- The positions, the infinities and the samples on top of one another. -/
def stacked (z : FVec Ideal S64x128 .f32) (u' : FVec Ideal S128x1 .f32) (g0 g1 b0 b1 b1' : FVec Ideal S128x128 .f32) :
    FVec Ideal S256x128 .f32 :=
  concatenate S256x128 0 [⟨S64x128, z⟩, ⟨S64x128, broadcast S64x128 (Named.named κ "big" 0x7F61B1E6#32)⟩,
    ⟨S128x128, samples z u' g0 g1 b0 b1 b1'⟩] concatenates_S64x128_S64x128_S128x128_S256x128_d0

theorem merged_eq (z : FVec Ideal S64x128 .f32) (u' : FVec Ideal S128x1 .f32) (g0 g1 b0 b1 b1' : FVec Ideal S128x128 .f32) :
    k1_pay25 (iota .tc S256x1 32 [0] iota_S256x1_d0_w32) (k1_pay23 (iota .tc S256x1 32 [0] iota_S256x1_d0_w32)
      (k1_pay21 z u' g0 g1 b0 b1 b1') k1_pay22) k1_pay24
    = extractStridedSlice S192x128 ![0, 0] (stage1 (stage2 (stage4 (stage8 (stage16 (stage32 (stage64 (stage128
      (stacked z u' g0 g1 b0 b1 b1')))))))))  slices_S256x128_o0_0_S192x128 := rfl

theorem merged_at (z : FVec Ideal S64x128 .f32) (u' : FVec Ideal S128x1 .f32) (g0 g1 b0 b1 b1' : FVec Ideal S128x128 .f32)
    (i : Fin 192) (j : Fin 128) :
    k1_pay25 (iota .tc S256x1 32 [0] iota_S256x1_d0_w32) (k1_pay23 (iota .tc S256x1 32 [0] iota_S256x1_d0_w32)
      (k1_pay21 z u' g0 g1 b0 b1 b1') k1_pay22) k1_pay24 (ix2 i j)
    = merge (col (stacked z u' g0 g1 b0 b1 b1') j) (early i) := by
  rw [merged_eq]
  unfold merge
  rw [← stage128_col, ← stage64_col, ← stage32_col, ← stage16_col, ← stage8_col, ← stage4_col, ← stage2_col, ← stage1_col]
  pointwise []
  rfl

theorem big_eq : (Named.named κ "big" 0x7F61B1E6#32 : Ideal .f32) = (⊤ : EReal) := rfl

theorem stacked_col (z : FVec Ideal S64x128 .f32) (u' : FVec Ideal S128x1 .f32) (g0 g1 b0 b1 b1' : FVec Ideal S128x128 .f32)
    (j : Fin 128) : col (stacked z u' g0 g1 b0 b1 b1') j
      = tent (col z j) (fun r => samples z u' g0 g1 b0 b1 b1' (ix2 ⟨127 - r.val, by omega⟩ j)) := by
  funext i
  unfold col tent
  pointwise [stacked]
  by_cases h1 : i.val < 64
  · rw [dif_pos h1, dif_pos h1]
  · rw [dif_neg h1, dif_neg h1]
    by_cases h2 : i.val < 128
    · rw [dif_pos (show i.val - 64 < 64 by omega), dif_pos h2]
      exact big_eq
    · rw [dif_neg (show ¬ i.val - 64 < 64 by omega), dif_neg h2]
      congr 2
      apply Fin.ext
      simp only
      omega

theorem samples_at (r j : Fin 128) :
    samples (k1_pay1 b c t) (k1_pay13 u)
      (k1_pay16 (k1_pay10 w) (k1_pay11 w) (Scalar.ofBits .f32 0x00000000#32) u)
      (k1_pay17 (k1_pay10 w) (k1_pay11 w) (Scalar.ofBits .f32 0x00000000#32) u)
      (k1_pay18 (k1_pay1 b c t) (k1_pay2 b c t) (k1_pay11 w) (Scalar.ofBits .f32 0x00000000#32) u)
      (k1_pay19 (k1_pay2 b c t) (k1_pay11 w) (Scalar.ofBits .f32 0x00000000#32) u)
      (k1_pay20 (k1_pay1 b c t)) (ix2 r j)
    = telescoped (col (k1_pay1 b c t) j) (share (col w j)) (u (ix2 r 0)) := by
  unfold telescoped
  rw [← low_mass_at, ← high_mass_at]
  have e1 := low_edge_at w u (k1_pay1 b c t) (k1_pay2 b c t) r j
  have e2 := high_edge_at w u (k1_pay2 b c t) r j
  have e3 : k1_pay20 (k1_pay1 b c t) (ix2 r j) = k1_pay1 b c t (ix2 1 j) := by pointwise [k1_pay20]
  have e4 : k1_pay13 u (ix2 r 0) = u (ix2 r 0) := by pointwise [k1_pay13]
  simp only [step_at] at e1 e2
  rw [← show _ = _ from e1, ← show k1_pay1 b c t (ix2 1 j) = col (k1_pay1 b c t) j 1 from rfl, ← show _ = _ from e2, ← e3,
    ← e4]
  unfold place
  pointwise [samples]
  rfl

end

end Cert.Nerf.Body

end

end
-- ==== Proof.Net.lean ====
/- The first and third kernels' bodies read at an index: the network at the sample points of a ray. -/
module

public import proofs.«01_k».proof.Proof.Coarse

@[expose] public section

set_option maxRecDepth 16384

noncomputable section

namespace Cert.Nerf

/-- The network: a hidden layer of 256 units with the positive part, and four outputs. -/
def network (W₁ : Fin 3 → Fin 256 → EReal) (b₁ : Fin 256 → EReal) (W₂ : Fin 256 → Fin 4 → EReal) (b₂ : Fin 4 → EReal)
    (p : Fin 3 → EReal) (k : Fin 4) : EReal :=
  ∑ h, max (∑ a, p a * W₁ a h + b₁ h) 0 * W₂ h k + b₂ k

namespace Body

open Idealize.ShloMosaic Idealize.SL.Sem
open Cert.KernelIdeal Cert.KernelIdeal.Gen

/-- Eight pieces of 4096 columns side by side, read at column `j`. -/
theorem pieces (f : Fin 8 → Fin 4096 → EReal) (j : Fin 32768) :
    (if h : j.val < 4096 then f 0 ⟨j.val, h⟩
    else if h : j.val - 4096 < 4096 then f 1 ⟨j.val - 4096, h⟩
    else if h : j.val - 4096 - 4096 < 4096 then f 2 ⟨j.val - 4096 - 4096, h⟩
    else if h : j.val - 4096 - 4096 - 4096 < 4096 then f 3 ⟨j.val - 4096 - 4096 - 4096, h⟩
    else if h : j.val - 4096 - 4096 - 4096 - 4096 < 4096 then f 4 ⟨j.val - 4096 - 4096 - 4096 - 4096, h⟩
    else if h : j.val - 4096 - 4096 - 4096 - 4096 - 4096 < 4096 then f 5 ⟨j.val - 4096 - 4096 - 4096 - 4096 - 4096, h⟩
    else if h : j.val - 4096 - 4096 - 4096 - 4096 - 4096 - 4096 < 4096 then
      f 6 ⟨j.val - 4096 - 4096 - 4096 - 4096 - 4096 - 4096, h⟩
    else f 7 ⟨j.val - 4096 - 4096 - 4096 - 4096 - 4096 - 4096 - 4096, by omega⟩)
    = f ⟨j.val / 4096, by omega⟩ ⟨j.val % 4096, by omega⟩ := by
  have key : ∀ (r : Fin 8) (n : ℕ) (hn : n < 4096), r.val * 4096 + n = j.val →
      f r ⟨n, hn⟩ = f ⟨j.val / 4096, by omega⟩ ⟨j.val % 4096, by omega⟩ := fun r n hn e =>
    congrArg₂ f (Fin.ext (by show r.val = j.val / 4096; omega)) (Fin.ext (by show n = j.val % 4096; omega))
  split_ifs
  · exact key 0 _ _ (by show 0 * 4096 + _ = _; omega)
  · exact key 1 _ _ (by show 1 * 4096 + _ = _; omega)
  · exact key 2 _ _ (by show 2 * 4096 + _ = _; omega)
  · exact key 3 _ _ (by show 3 * 4096 + _ = _; omega)
  · exact key 4 _ _ (by show 4 * 4096 + _ = _; omega)
  · exact key 5 _ _ (by show 5 * 4096 + _ = _; omega)
  · exact key 6 _ _ (by show 6 * 4096 + _ = _; omega)
  · exact key 7 _ _ (by show 7 * 4096 + _ = _; omega)

/-- The third kernel's points. -/
theorem points_at (o d : Vec Ideal S3x4096 .f32) (z : Vec Ideal S8x1x4096 .f32) (a : Fin 3) (j : Fin 32768) :
    k2_pay2 o d z (ix2 a j) = o (ix2 a ⟨j.val % 4096, by omega⟩) + d (ix2 a ⟨j.val % 4096, by omega⟩)
      * z (ix3 ⟨j.val / 4096, by omega⟩ 0 ⟨j.val % 4096, by omega⟩) := by
  pointwise [k2_pay2]
  exact pieces (fun r q => o (ix2 a q) + d (ix2 a q) * z (ix3 r 0 q)) j

theorem net_at (p : FVec Ideal S3x32768 .f32) (W₁ : Vec Ideal S256x3 .f32) (b₁ : Vec Ideal S256x1 .f32)
    (W₂ : Vec Ideal S4x256 .f32) (b₂ : Vec Ideal S4x1 .f32) (k : Fin 4) (j : Fin 32768) :
    k2_pay1 p (k2_pay3 W₁) (k2_pay4 b₁) (k2_pay5 W₂) b₂ (ix2 k j)
      = network (fun a h => W₁ (ix2 h a)) (fun h => b₁ (ix2 h 0)) (fun h c => W₂ (ix2 c h)) (fun c => b₂ (ix2 c 0))
        (fun a => p (ix2 a j)) k := by
  unfold network
  pointwise [k2_pay1, k2_pay3, k2_pay4, k2_pay5]
  simp only [mul_comm]

section
variable (o d : Vec Ideal S3x4096 .f32) (b c : Vec Ideal S2x4096 .f32) (t : Vec Ideal S8x1x1 .f32)

/-- A point of the coarse pass. -/
def coarsePoint (a : Fin 3) (r : Fin 8) (q : Fin 4096) : EReal :=
  o (ix2 a q) + d (ix2 a q) * depths (b (ix2 0 q)) (c (ix2 1 q)) (fun r => t (ix3 r 0 0)) r

theorem block0_at (a : Fin 3) (q : Fin 4096) : k0_pay7 o d b c t (ix2 a q) = coarsePoint o d b c t a 0 q := by
  unfold coarsePoint depths
  pointwise [k0_pay7, k0_pay6, k0_pay5, k0_pay4, k0_pay3, k0_pay2]

theorem block1_at (a : Fin 3) (q : Fin 4096) : k0_pay8 o d b c t (ix2 a q) = coarsePoint o d b c t a 1 q := by
  unfold coarsePoint depths
  pointwise [k0_pay8, k0_pay6, k0_pay5, k0_pay4, k0_pay3, k0_pay2]

theorem block2_at (a : Fin 3) (q : Fin 4096) :
    k0_pay10 (k0_pay2 o) (k0_pay9 d b c t) (ix2 a q) = coarsePoint o d b c t a 2 q := by
  unfold coarsePoint depths
  pointwise [k0_pay10, k0_pay9, k0_pay6, k0_pay5, k0_pay4, k0_pay3, k0_pay2]

theorem block3_at (a : Fin 3) (q : Fin 4096) :
    k0_pay11 (k0_pay2 o) (k0_pay3 d) (k0_pay4 b) (k0_pay5 c) (k0_pay6 t) (ix2 a q) = coarsePoint o d b c t a 3 q := by
  unfold coarsePoint depths
  pointwise [k0_pay11, k0_pay6, k0_pay5, k0_pay4, k0_pay3, k0_pay2]

theorem block4_at (a : Fin 3) (q : Fin 4096) :
    k0_pay12 (k0_pay2 o) (k0_pay3 d) (k0_pay4 b) (k0_pay5 c) (k0_pay6 t) (ix2 a q) = coarsePoint o d b c t a 4 q := by
  unfold coarsePoint depths
  pointwise [k0_pay12, k0_pay6, k0_pay5, k0_pay4, k0_pay3, k0_pay2]

theorem block5_at (a : Fin 3) (q : Fin 4096) :
    k0_pay13 (k0_pay2 o) (k0_pay3 d) (k0_pay4 b) (k0_pay5 c) (k0_pay6 t) (ix2 a q) = coarsePoint o d b c t a 5 q := by
  unfold coarsePoint depths
  pointwise [k0_pay13, k0_pay6, k0_pay5, k0_pay4, k0_pay3, k0_pay2]

theorem block6_at (a : Fin 3) (q : Fin 4096) :
    k0_pay14 (k0_pay2 o) (k0_pay3 d) (k0_pay4 b) (k0_pay5 c) (k0_pay6 t) (ix2 a q) = coarsePoint o d b c t a 6 q := by
  unfold coarsePoint depths
  pointwise [k0_pay14, k0_pay6, k0_pay5, k0_pay4, k0_pay3, k0_pay2]

theorem block7_at (a : Fin 3) (q : Fin 4096) :
    (k0_pay2 o (ix2 a q) : EReal) + k0_pay15 (k0_pay3 d) (k0_pay4 b) (k0_pay5 c) (k0_pay6 t) (ix2 a q) = coarsePoint o d b c t a 7 q := by
  unfold coarsePoint depths
  pointwise [k0_pay15, k0_pay6, k0_pay5, k0_pay4, k0_pay3, k0_pay2]

theorem coarse_net_at (W₁ : Vec Ideal S256x3 .f32) (b₁ : Vec Ideal S256x1 .f32)
    (W₂ : Vec Ideal S4x256 .f32) (b₂ : Vec Ideal S4x1 .f32) (k : Fin 4) (j : Fin 32768) :
    k0_pay1 (k0_pay2 o) (k0_pay7 o d b c t) (k0_pay8 o d b c t) (k0_pay10 (k0_pay2 o) (k0_pay9 d b c t))
      (k0_pay11 (k0_pay2 o) (k0_pay3 d) (k0_pay4 b) (k0_pay5 c) (k0_pay6 t))
      (k0_pay12 (k0_pay2 o) (k0_pay3 d) (k0_pay4 b) (k0_pay5 c) (k0_pay6 t))
      (k0_pay13 (k0_pay2 o) (k0_pay3 d) (k0_pay4 b) (k0_pay5 c) (k0_pay6 t))
      (k0_pay14 (k0_pay2 o) (k0_pay3 d) (k0_pay4 b) (k0_pay5 c) (k0_pay6 t))
      (k0_pay15 (k0_pay3 d) (k0_pay4 b) (k0_pay5 c) (k0_pay6 t)) W₁ b₁ W₂ b₂ (ix2 k j)
      = network (fun a h => W₁ (ix2 h a)) (fun h => b₁ (ix2 h 0)) (fun h c => W₂ (ix2 c h)) (fun c => b₂ (ix2 c 0))
        (fun a => coarsePoint o d b c t a ⟨j.val / 4096, by omega⟩ ⟨j.val % 4096, by omega⟩) k := by
  unfold network
  pointwise [k0_pay1]
  simp only [block0_at, block1_at, block2_at, block3_at, block4_at, block5_at, block6_at, block7_at]
  simp only [fun a => pieces (coarsePoint o d b c t a) j]
  simp only [mul_comm]

end

end Body

end Cert.Nerf

end

end
-- ==== Proof.Scene.lean ====
/- The problem: rays through a scene, rendered coarsely, then finely at positions drawn from the coarse weights. -/
module

public import proofs.«01_k».proof.Proof.Net
public import Idealize.ShloMosaic.Lib.StableHlo.Predicate
public import proofs.«01_k».proof.Proof.Sample
public import proofs.«01_k».proof.Proof.Merge

@[expose] public section

set_option maxRecDepth 16384

noncomputable section

namespace Cert.Nerf

open Idealize.ShloMosaic Idealize.ShloMosaic.StableHlo

/-- The arguments: origins and directions of the rays, their bounds, and the network's parameters. -/
structure Scene where
  origin : Fin 4096 → Fin 3 → EReal
  direction : Fin 4096 → Fin 3 → EReal
  near : Fin 4096 → EReal
  far : Fin 4096 → EReal
  W₁ : Fin 3 → Fin 256 → EReal
  b₁ : Fin 256 → EReal
  W₂ : Fin 256 → Fin 4 → EReal
  b₂ : Fin 4 → EReal

/-- The `n` equally spaced positions from zero to one. -/
def gridR (n : ℕ) (i : Fin n) : ℝ := i.val * ((n - 1 : ℕ) : ℝ)⁻¹

/-- The same as extended reals. -/
def grid (n : ℕ) (i : Fin n) : EReal := (gridR n i : EReal)

theorem gridR_nonneg (n : ℕ) (i : Fin n) : 0 ≤ gridR n i := by unfold gridR; positivity

theorem gridR_mono (n : ℕ) : Monotone (gridR n) := fun i k h => by
  unfold gridR
  exact mul_le_mul_of_nonneg_right (by exact_mod_cast h) (by positivity)

theorem gridR_le_one (n : ℕ) (i : Fin n) : gridR n i ≤ 1 := by
  unfold gridR
  have hi : i.val ≤ n - 1 := by omega
  by_cases h : n - 1 = 0
  · simp [h]
  · rw [← div_eq_mul_inv, div_le_one (by positivity)]
    exact_mod_cast hi

/-- A position of the grid as the programs compute it: a quotient, and one at the end. -/
theorem grid_eq (n : ℕ) (hn : 2 ≤ n) (i : Fin n) (zero one x c : EReal) (h₀ : zero = 0) (h₁ : one = 1) (hx : x = ((i.val : ℝ) : EReal)) (hc : c = (((n - 1 : ℕ) : ℝ) : EReal)) :
    (if _ : i.val < n - 1 then zero * (1 - Ideal.div x c) + one * Ideal.div x c else one) = grid n i := by
  have h0 : ((n - 1 : ℕ) : ℝ) ≠ 0 := by
    have : n - 1 ≠ 0 := by omega
    exact_mod_cast this
  subst h₀ h₁ hx hc
  rw [div_coe h0]
  unfold grid gridR
  split_ifs with h
  · rw [zero_mul, zero_add, one_mul]
  · have e : i.val = n - 1 := by omega
    rw [e, mul_inv_cancel₀ h0, EReal.coe_one]

theorem small_number {n : ℕ} (h : n < 2 ^ 31) : (FloatOps.sitofp .f32 (BitVec.ofNat 32 n) : Ideal .f32) = (((n : ℝ)) : EReal) := by
  show (((BitVec.ofNat 32 n).toInt : ℝ) : EReal) = _
  rw [Predicate.toInt_ofNat_small n (by omega)]
  norm_cast

theorem zero_scalar : (id (constant (F := Ideal) ⟨0, ![]⟩ .f32 0x00000000#32) ix0 : EReal) = 0 := Ideal.ofBits_zero_f32
theorem one_scalar : (id (constant (F := Ideal) ⟨0, ![]⟩ .f32 0x3F800000#32) ix0 : EReal) = 1 := Ideal.ofBits_one_f32

theorem sixty_three : Ideal.ofBits .f32 0x427C0000#32 = (((64 - 1 : ℕ) : ℝ) : EReal) := by
  simp [Ideal.ofBits, Ideal.ieee, -EReal.coe_mul]; norm_num
theorem hundred_twenty_seven : Ideal.ofBits .f32 0x42FE0000#32 = (((128 - 1 : ℕ) : ℝ) : EReal) := by
  simp [Ideal.ofBits, Ideal.ieee, -EReal.coe_mul]; norm_num

namespace Scene

variable (S : Scene)

/-- The positions of the coarse pass along ray `j`. -/
def coarse (j : Fin 4096) (i : Fin 64) : EReal := Body.depths (S.near j) (S.far j) (grid 64) i

/-- The point of ray `j` at position `z`. -/
def point (j : Fin 4096) (z : EReal) (a : Fin 3) : EReal := S.origin j a + S.direction j a * z

/-- The network's output `k` at position `z` of ray `j`. -/
def raw (j : Fin 4096) (z : EReal) (k : Fin 4) : EReal := network S.W₁ S.b₁ S.W₂ S.b₂ (S.point j z) k

/-- The length of the direction of ray `j`. -/
def norm (j : Fin 4096) : EReal := Ideal.sqrt (∑ x, S.direction j x * S.direction j x)

/-- The weights of ray `j` at the positions `z`. -/
def weights {n : ℕ} (j : Fin 4096) (z : Fin n → EReal) : Fin n → EReal := weight (fun i => S.raw j (z i) 3) z (S.norm j)

/-- The colours of ray `j` seen at the positions `z`. -/
def colours {n : ℕ} (j : Fin 4096) (z : Fin n → EReal) (k : Fin 3) : EReal :=
  colour (S.weights j z) fun i => S.raw j (z i) ⟨k.val, by omega⟩

/-- How the coarse weights of ray `j` are shared out. -/
def shares (j : Fin 4096) : Fin 64 → EReal := share (S.weights j (S.coarse j))

/-- The positions drawn for ray `j`. -/
def drawn (j : Fin 4096) (r : Fin 128) : EReal := sample (S.coarse j) (S.shares j) (grid 128 r)

end Scene

end Cert.Nerf

end

end
-- ==== Proof.Entry.lean ====
/- The kernel's host operations read at an index: what each launch finds, and what the results are. -/
module

public import proofs.«01_k».proof.Proof.Scene
public import proofs.«01_k».proof.Proof.Gen.KernelIdeal.Frame
public import Idealize.ShloMosaic.Lib.StableHlo.ReadAt
public import Idealize.ShloMosaic.Lib.Pipeline.ValueKit

@[expose] public section

set_option maxRecDepth 16384

noncomputable section

namespace Cert.Nerf.Kern

open Idealize.ShloMosaic Idealize.SL.Sem Idealize.ShloMosaic.StableHlo Idealize.ShloMosaic.TcCoe
open Cert.KernelIdeal Cert.KernelIdeal.Gen

variable (m : (a : Loc nD τ sig) → Buf (Elt Ideal) a) (ρ : Dev nD → PrngReg) (c : Dev nD)

/-- The scene that the arguments hold. -/
def scene : Scene where
  origin j a := m ((c : Thread nD τ).loc main_arg0) (ix2 j a)
  direction j a := m ((c : Thread nD τ).loc main_arg1) (ix2 j a)
  near j := m ((c : Thread nD τ).loc main_arg2) (ix2 j 0)
  far j := m ((c : Thread nD τ).loc main_arg2) (ix2 j 1)
  W₁ a h := m ((c : Thread nD τ).loc main_arg3) (ix2 a h)
  b₁ h := m ((c : Thread nD τ).loc main_arg4) (ix1 h)
  W₂ h k := m ((c : Thread nD τ).loc main_arg5) (ix2 h k)
  b₂ k := m ((c : Thread nD τ).loc main_arg6) (ix1 k)

theorem origin_at (a : Fin 3) (j : Fin 4096) :
    @Eq EReal (W5 m ρ c (Proc.devRef .tc main_v10) (ix2 a j)) ((scene m c).origin j a) := by
  unfold scene
  rw [← W4_args m ρ c main_arg0 (by decide)]
  after_reads_at

theorem direction_at (a : Fin 3) (j : Fin 4096) :
    @Eq EReal (W5 m ρ c (Proc.devRef .tc main_v11) (ix2 a j)) ((scene m c).direction j a) := by
  unfold scene
  rw [← W4_args m ρ c main_arg1 (by decide)]
  after_reads_at

theorem near_at (j : Fin 4096) :
    @Eq EReal (W5 m ρ c (Proc.devRef .tc main_v12) (ix2 0 j)) ((scene m c).near j) := by
  unfold scene
  rw [← W4_args m ρ c main_arg2 (by decide)]
  after_reads_at

theorem far_at (j : Fin 4096) :
    @Eq EReal (W5 m ρ c (Proc.devRef .tc main_v12) (ix2 1 j)) ((scene m c).far j) := by
  unfold scene
  rw [← W4_args m ρ c main_arg2 (by decide)]
  after_reads_at

theorem W₁_at (h : Fin 256) (a : Fin 3) :
    @Eq EReal (W5 m ρ c (Proc.devRef .tc main_v6) (ix2 h a)) ((scene m c).W₁ a h) := by
  unfold scene
  rw [← W4_args m ρ c main_arg3 (by decide)]
  after_reads_at

theorem b₁_at (h : Fin 256) :
    @Eq EReal (W5 m ρ c (Proc.devRef .tc main_v8) (ix2 h 0)) ((scene m c).b₁ h) := by
  unfold scene
  rw [← W4_args m ρ c main_arg4 (by decide)]
  after_reads_at

theorem W₂_at (k : Fin 4) (h : Fin 256) :
    @Eq EReal (W5 m ρ c (Proc.devRef .tc main_v7) (ix2 k h)) ((scene m c).W₂ h k) := by
  unfold scene
  rw [← W4_args m ρ c main_arg5 (by decide)]
  after_reads_at

theorem b₂_at (k : Fin 4) :
    @Eq EReal (W5 m ρ c (Proc.devRef .tc main_v9) (ix2 k 0)) ((scene m c).b₂ k) := by
  unfold scene
  rw [← W4_args m ρ c main_arg6 (by decide)]
  after_reads_at

theorem linspace_at (i : Fin 64) : @Eq EReal (W2 m ρ c (Proc.devRef .tc main_v0) (ix1 i)) (grid 64 i) := by
  refine Eq.trans ?_ (grid_eq 64 (by omega) i _ _ _ _ zero_scalar one_scalar (small_number (n := i.val) (by omega)) sixty_three)
  after_reads_at
  after_reads_simp
  simp only [StableHlo.TRef.ofBuf_toBuf, StableHlo.TRef.toBuf, StableHlo.TRef.ofBuf, cast_eq]
  pointwise []

theorem reversed_linspace_at (i : Fin 128) : @Eq EReal (W4 m ρ c (Proc.devRef .tc main_v3) (ix1 i)) (grid 128 i) := by
  refine Eq.trans ?_ (grid_eq 128 (by omega) i _ _ _ _ zero_scalar one_scalar (small_number (n := i.val) (by omega)) hundred_twenty_seven)
  after_reads_at
  after_reads_simp
  simp only [StableHlo.TRef.ofBuf_toBuf, StableHlo.TRef.toBuf, StableHlo.TRef.ofBuf, cast_eq]
  pointwise []

theorem column_of (W : Valuation τ sig (Elt Ideal)) (i : Fin 64) :
    @Eq EReal (StableHlo.after hostOps0_2 W (Proc.devRef .tc main_v2) (ix2 i 0)) (W (Proc.devRef .tc main_v0) (ix1 i)) := by
  after_reads_at

theorem block_of (W : Valuation τ sig (Elt Ideal)) (i : Fin 64) :
    @Eq EReal (StableHlo.after hostOps0_4 W (Proc.devRef .tc main_v13) (ix3 i 0 0)) (W (Proc.devRef .tc main_v2) (ix2 i 0)) := by
  after_reads_at

theorem reversed_of (W : Valuation τ sig (Elt Ideal)) (r : Fin 128) :
    @Eq EReal (StableHlo.after hostOps0_4 W (Proc.devRef .tc main_v5) (ix2 r 0)) (W (Proc.devRef .tc main_v3) (ix1 ⟨127 - r.val, by omega⟩)) := by
  after_reads_at
  refine congrArg (fun x => W (Proc.devRef .tc main_v3) (ix1 x)) (Fin.ext ?_)
  exact (congrArg Fin.val (if_pos (List.mem_singleton.mpr rfl))).trans ((Fin.val_rev r).trans (show 128 - (r.val + 1) = 127 - r.val by omega))

theorem t_at (i : Fin 64) : @Eq EReal (W5 m ρ c (Proc.devRef .tc main_v2) (ix2 i 0)) (grid 64 i) := by
  rw [W5_of m ρ c main_v2 (by decide), W4_of m ρ c main_v2 (by decide)]
  exact (column_of _ i).trans (linspace_at m ρ c i)

theorem t_block_at (i : Fin 64) : @Eq EReal (W5 m ρ c (Proc.devRef .tc main_v13) (ix3 i 0 0)) (grid 64 i) := by
  refine (block_of _ i).trans ?_
  rw [W4_of m ρ c main_v2 (by decide)]
  exact (column_of _ i).trans (linspace_at m ρ c i)

theorem u_at (r : Fin 128) : @Eq EReal (W5 m ρ c (Proc.devRef .tc main_v5) (ix2 r 0)) (grid 128 ⟨127 - r.val, by omega⟩) :=
  (reversed_of _ r).trans (reversed_linspace_at m ρ c _)

theorem coarse_slice0_at (i : Fin 64) (j : Fin 4096) :
    @Eq EReal (W7 m ρ c (Proc.devRef .tc main_v17) (ix2 i j)) (W6 m ρ c (Proc.devRef .tc main_v14) (ix2 0 ⟨i.val * 4096 + j.val, by omega⟩)) := by
  after_reads_at

theorem coarse_slice1_at (i : Fin 64) (j : Fin 4096) :
    @Eq EReal (W7 m ρ c (Proc.devRef .tc main_v20) (ix2 i j)) (W6 m ρ c (Proc.devRef .tc main_v14) (ix2 1 ⟨i.val * 4096 + j.val, by omega⟩)) := by
  after_reads_at

theorem coarse_slice2_at (i : Fin 64) (j : Fin 4096) :
    @Eq EReal (W7 m ρ c (Proc.devRef .tc main_v23) (ix2 i j)) (W6 m ρ c (Proc.devRef .tc main_v14) (ix2 2 ⟨i.val * 4096 + j.val, by omega⟩)) := by
  after_reads_at

theorem coarse_slice3_at (i : Fin 64) (j : Fin 4096) :
    @Eq EReal (W7 m ρ c (Proc.devRef .tc main_v26) (ix2 i j)) (W6 m ρ c (Proc.devRef .tc main_v14) (ix2 3 ⟨i.val * 4096 + j.val, by omega⟩)) := by
  after_reads_at

theorem fine_slice0_at (i : Fin 192) (j : Fin 4096) :
    @Eq EReal (W11 m ρ c (Proc.devRef .tc main_v32) (ix2 i j)) (W10 m ρ c (Proc.devRef .tc main_v29) (ix2 0 ⟨i.val * 4096 + j.val, by omega⟩)) := by
  after_reads_at

theorem fine_slice1_at (i : Fin 192) (j : Fin 4096) :
    @Eq EReal (W11 m ρ c (Proc.devRef .tc main_v35) (ix2 i j)) (W10 m ρ c (Proc.devRef .tc main_v29) (ix2 1 ⟨i.val * 4096 + j.val, by omega⟩)) := by
  after_reads_at

theorem fine_slice2_at (i : Fin 192) (j : Fin 4096) :
    @Eq EReal (W11 m ρ c (Proc.devRef .tc main_v38) (ix2 i j)) (W10 m ρ c (Proc.devRef .tc main_v29) (ix2 2 ⟨i.val * 4096 + j.val, by omega⟩)) := by
  after_reads_at

theorem fine_slice3_at (i : Fin 192) (j : Fin 4096) :
    @Eq EReal (W11 m ρ c (Proc.devRef .tc main_v41) (ix2 i j)) (W10 m ρ c (Proc.devRef .tc main_v29) (ix2 3 ⟨i.val * 4096 + j.val, by omega⟩)) := by
  after_reads_at

theorem stacked_positions_at (i : Fin 192) (j : Fin 4096) :
    @Eq EReal (W9 m ρ c (Proc.devRef .tc main_v28) (ix3 i 0 j)) (W8 m ρ c (Proc.devRef .tc main_v27_1) (ix2 i j)) := by
  after_reads_at

theorem result0_at (j : Fin 4096) (k : Fin 3) :
    @Eq EReal (W13 m ρ c (Proc.devRef .tc main_v43) (ix2 j k)) (W12 m ρ c (Proc.devRef .tc main_v27_0) (ix2 k j)) := by
  after_reads_at

theorem result1_at (j : Fin 4096) (k : Fin 3) :
    @Eq EReal (W13 m ρ c (Proc.devRef .tc main_v44) (ix2 j k)) (W12 m ρ c (Proc.devRef .tc main_v42_0) (ix2 k j)) := by
  after_reads_at

theorem result2_at (j : Fin 4096) :
    @Eq EReal (W13 m ρ c (Proc.devRef .tc main_v45) (ix1 j)) (W12 m ρ c (Proc.devRef .tc main_v42_1) (ix2 0 j)) := by
  after_reads_at

theorem result3_at (j : Fin 4096) :
    @Eq EReal (W13 m ρ c (Proc.devRef .tc main_v46) (ix1 j)) (W12 m ρ c (Proc.devRef .tc main_v42_2) (ix2 0 j)) := by
  after_reads_at

theorem result4_at (j : Fin 4096) (i : Fin 192) :
    @Eq EReal (W13 m ρ c (Proc.devRef .tc main_v47) (ix2 j i)) (W12 m ρ c (Proc.devRef .tc main_v42_3) (ix2 i j)) := by
  after_reads_at

end Cert.Nerf.Kern

end

end
-- ==== Proof.CoarseNet.lean ====
/- The first launch: the network's outputs at every coarse position of every ray. -/
module

public import proofs.«01_k».proof.Proof.Entry

@[expose] public section

set_option maxRecDepth 16384

noncomputable section

namespace Cert.Nerf.Kern

open Idealize.ShloMosaic Idealize.SL.Sem Idealize.ShloMosaic.StableHlo Idealize.ShloMosaic.TcCoe
open Cert.KernelIdeal Cert.KernelIdeal.Gen

variable (V : (c : Dev nD) → (b : Ref sig .tc) → Buf (Elt Ideal) ((c : Thread nD τ).loc b)) (c : Dev nD)

/-- The network's output `k` at column `q`: position `q / 4096` of ray `q % 4096`. -/
def coarseNet (o d : Vec Ideal S3x4096 .f32) (b : Vec Ideal S2x4096 .f32) (t : Vec Ideal S64x1x1 .f32) (W₁ : Vec Ideal S256x3 .f32) (b₁ : Vec Ideal S256x1 .f32)
    (W₂ : Vec Ideal S4x256 .f32) (b₂ : Vec Ideal S4x1 .f32) (k : Fin 4) (q : Fin 262144) : EReal :=
  network (fun a h => W₁ (ix2 h a)) (fun h => b₁ (ix2 h 0)) (fun h k => W₂ (ix2 k h)) (fun k => b₂ (ix2 k 0))
    (fun a => o (ix2 a ⟨q.val % 4096, by omega⟩)
      + d (ix2 a ⟨q.val % 4096, by omega⟩) * Body.depths (b (ix2 0 ⟨q.val % 4096, by omega⟩)) (b (ix2 1 ⟨q.val % 4096, by omega⟩)) (fun i : Fin 64 => t (ix3 i 0 0)) ⟨q.val / 4096, by omega⟩) k

theorem place0_0 : ∀ t : Fin grid0.N, win0_0.index t = ![0, 0] := by decide +kernel
theorem place0_1 : ∀ t : Fin grid0.N, win0_1.index t = ![0, 0] := by decide +kernel
theorem place0_2 : ∀ t : Fin grid0.N, win0_2.index t = ![0, 0] := by decide +kernel
theorem place0_3 : ∀ t : Fin grid0.N, win0_3.index t = ![t.val, 0, 0] := by decide +kernel
theorem place0_4 : ∀ t : Fin grid0.N, win0_4.index t = ![0, 0] := by decide +kernel
theorem place0_5 : ∀ t : Fin grid0.N, win0_5.index t = ![0, 0] := by decide +kernel
theorem place0_6 : ∀ t : Fin grid0.N, win0_6.index t = ![0, 0] := by decide +kernel
theorem place0_7 : ∀ t : Fin grid0.N, win0_7.index t = ![0, 0] := by decide +kernel
theorem place0_8 : ∀ t : Fin grid0.N, win0_8.index t = ![0, t.val] := by decide +kernel

theorem block0_0 (t : Fin grid0.N) (a : Fin 3) (q : Fin 4096) :
    @Eq EReal (iblk0 V c 0 t (ix2 a q)) (V c main_v10 (ix2 a q)) := by
  blk_ext [iblk0, place0_0 t]

theorem block0_1 (t : Fin grid0.N) (a : Fin 3) (q : Fin 4096) :
    @Eq EReal (iblk0 V c 1 t (ix2 a q)) (V c main_v11 (ix2 a q)) := by
  blk_ext [iblk0, place0_1 t]

theorem block0_2 (t : Fin grid0.N) (a : Fin 2) (q : Fin 4096) :
    @Eq EReal (iblk0 V c 2 t (ix2 a q)) (V c main_v12 (ix2 a q)) := by
  blk_ext [iblk0, place0_2 t]

theorem block0_3 (t : Fin grid0.N) (s : Fin 8) :
    @Eq EReal (iblk0 V c 3 t (ix3 s 0 0)) (V c main_v13 (ix3 ⟨t.val * 8 + s.val, (by have : t.val < 8 := t.isLt; omega)⟩ 0 0)) := by
  blk_ext [iblk0, place0_3 t]

theorem block0_4 (t : Fin grid0.N) (h : Fin 256) (a : Fin 3) :
    @Eq EReal (iblk0 V c 4 t (ix2 h a)) (V c main_v6 (ix2 h a)) := by
  blk_ext [iblk0, place0_4 t]

theorem block0_5 (t : Fin grid0.N) (h : Fin 256) :
    @Eq EReal (iblk0 V c 5 t (ix2 h 0)) (V c main_v8 (ix2 h 0)) := by
  blk_ext [iblk0, place0_5 t]

theorem block0_6 (t : Fin grid0.N) (k : Fin 4) (h : Fin 256) :
    @Eq EReal (iblk0 V c 6 t (ix2 k h)) (V c main_v7 (ix2 k h)) := by
  blk_ext [iblk0, place0_6 t]

theorem block0_7 (t : Fin grid0.N) (k : Fin 4) :
    @Eq EReal (iblk0 V c 7 t (ix2 k 0)) (V c main_v9 (ix2 k 0)) := by
  blk_ext [iblk0, place0_7 t]

theorem place0_8_at (t : Fin grid0.N) (k : Fin 4) (j : Fin 32768) :
    ((cfg0.win 8).blk t).view.emb (ix2 k j) = (ix2 k ⟨t.val * 32768 + j.val, by have : t.val < 8 := t.isLt; omega⟩ : S4x262144.Idx) := by
  blk_ext [place0_8 t]

section
variable (x0 x1 : Vec Ideal S3x4096 .f32) (x2 : Vec Ideal S2x4096 .f32) (x3 : Vec Ideal S8x1x1 .f32) (x4 : Vec Ideal S256x3 .f32) (x5 : Vec Ideal S256x1 .f32) (x6 : Vec Ideal S4x256 .f32) (x7 : Vec Ideal S4x1 .f32)

theorem opened0_16 : k0_pay16 x0 x1 x2 x3 x4 x5 x6 x7 = k0_pay2 x0 := by
  unfold k0_pay16
  frame_out

theorem opened0_17 : k0_pay17 x0 x1 x2 x3 x4 x5 x6 x7 = k0_pay3 x1 := by
  unfold k0_pay17
  frame_out

theorem opened0_18 : k0_pay18 x0 x1 x2 x3 x4 x5 x6 x7 = k0_pay4 x2 := by
  unfold k0_pay18
  frame_out

theorem opened0_19 : k0_pay19 x0 x1 x2 x3 x4 x5 x6 x7 = k0_pay5 x2 := by
  unfold k0_pay19
  frame_out

theorem opened0_20 : k0_pay20 x0 x1 x2 x3 x4 x5 x6 x7 = k0_pay6 x3 := by
  unfold k0_pay20
  frame_out

end

theorem coarseNet_out : @Eq (Vec Ideal S4x262144 .f32) ((dat0 V c).arrAt 8 cfg0.N)
    (fun i => coarseNet (V c main_v10) (V c main_v11) (V c main_v12) (V c main_v13) (V c main_v6) (V c main_v8) (V c main_v7) (V c main_v9) (i 0) (i 1)) := by
  refine (dat0 V c).arrAt_eq_of_covers 8 _ (by decide +kernel) fun t hf y => ?_
  obtain ⟨k, j, rfl⟩ : ∃ (k : Fin 4) (j : Fin 32768), y = ix2 k j := ⟨y 0, y 1, eq_ix2 y⟩
  rw [place0_8_at]
  blk_simp
  rw [after0_8]
  frame_out
  simp only [opened0_16, opened0_17, opened0_18, opened0_19, opened0_20]
  refine (Body.coarse_net_at (iblk0 V c 0 t) (iblk0 V c 1 t) (iblk0 V c 2 t) (iblk0 V c 2 t) (iblk0 V c 3 t) (iblk0 V c 4 t) (iblk0 V c 5 t) (iblk0 V c 6 t) (iblk0 V c 7 t) k j).trans ?_
  unfold coarseNet Body.coarsePoint
  simp only [block0_0, block0_1, block0_2, block0_4, block0_5, block0_6, block0_7]
  refine congrArg (fun p => network _ _ _ _ p k) (funext fun a => ?_)
  have ht : t.val < 8 := t.isLt
  have hm : (⟨j.val % 4096, by omega⟩ : Fin 4096) = ⟨(t.val * 32768 + j.val) % 4096, by omega⟩ := Fin.ext (show j.val % 4096 = (t.val * 32768 + j.val) % 4096 by omega)
  have hd : (⟨t.val * 8 + j.val / 4096, by omega⟩ : Fin 64) = ⟨(t.val * 32768 + j.val) / 4096, by omega⟩ := Fin.ext (show t.val * 8 + j.val / 4096 = (t.val * 32768 + j.val) / 4096 by omega)
  unfold Body.depths
  simp only [block0_3]
  rw [hm, hd]
  rfl

end Cert.Nerf.Kern

end

end
-- ==== Proof.Draws.lean ====
/- The second launch: the coarse colours of every ray, and its fine positions. -/
module

public import proofs.«01_k».proof.Proof.Entry

@[expose] public section

set_option maxRecDepth 16384

noncomputable section

namespace Cert.Nerf.Kern

open Idealize.ShloMosaic Idealize.SL.Sem Idealize.ShloMosaic.StableHlo Idealize.ShloMosaic.TcCoe
open Cert.KernelIdeal Cert.KernelIdeal.Gen

variable (V : (c : Dev nD) → (b : Ref sig .tc) → Buf (Elt Ideal) ((c : Thread nD τ).loc b)) (c : Dev nD)

theorem place1_0 : ∀ t : Fin grid1.N, win1_0.index t = ![0, t.val] := by decide +kernel
theorem place1_1 : ∀ t : Fin grid1.N, win1_1.index t = ![0, t.val] := by decide +kernel
theorem place1_2 : ∀ t : Fin grid1.N, win1_2.index t = ![0, 0] := by decide +kernel
theorem place1_3 : ∀ t : Fin grid1.N, win1_3.index t = ![0, 0] := by decide +kernel
theorem place1_4 : ∀ t : Fin grid1.N, win1_4.index t = ![0, t.val] := by decide +kernel
theorem place1_5 : ∀ t : Fin grid1.N, win1_5.index t = ![0, t.val] := by decide +kernel
theorem place1_6 : ∀ t : Fin grid1.N, win1_6.index t = ![0, t.val] := by decide +kernel
theorem place1_7 : ∀ t : Fin grid1.N, win1_7.index t = ![0, t.val] := by decide +kernel
theorem place1_8 : ∀ t : Fin grid1.N, win1_8.index t = ![0, t.val] := by decide +kernel
theorem place1_9 : ∀ t : Fin grid1.N, win1_9.index t = ![0, t.val] := by decide +kernel

theorem block1_0 (t : Fin grid1.N) (a : Fin 3) (q : Fin 128) :
    @Eq EReal (iblk1 V c 0 t (ix2 a q)) (V c main_v11 (ix2 a ⟨t.val * 128 + q.val, (by have : t.val < 32 := t.isLt; omega)⟩)) := by
  blk_ext [iblk1, place1_0 t]

theorem block1_1 (t : Fin grid1.N) (a : Fin 2) (q : Fin 128) :
    @Eq EReal (iblk1 V c 1 t (ix2 a q)) (V c main_v12 (ix2 a ⟨t.val * 128 + q.val, (by have : t.val < 32 := t.isLt; omega)⟩)) := by
  blk_ext [iblk1, place1_1 t]

theorem block1_2 (t : Fin grid1.N) (i : Fin 64) :
    @Eq EReal (iblk1 V c 2 t (ix2 i 0)) (V c main_v2 (ix2 i 0)) := by
  blk_ext [iblk1, place1_2 t]

theorem block1_3 (t : Fin grid1.N) (r : Fin 128) :
    @Eq EReal (iblk1 V c 3 t (ix2 r 0)) (V c main_v5 (ix2 r 0)) := by
  blk_ext [iblk1, place1_3 t]

theorem block1_4 (t : Fin grid1.N) (i : Fin 64) (q : Fin 128) :
    @Eq EReal (iblk1 V c 4 t (ix2 i q)) (V c main_v17 (ix2 i ⟨t.val * 128 + q.val, (by have : t.val < 32 := t.isLt; omega)⟩)) := by
  blk_ext [iblk1, place1_4 t]

theorem block1_5 (t : Fin grid1.N) (i : Fin 64) (q : Fin 128) :
    @Eq EReal (iblk1 V c 5 t (ix2 i q)) (V c main_v20 (ix2 i ⟨t.val * 128 + q.val, (by have : t.val < 32 := t.isLt; omega)⟩)) := by
  blk_ext [iblk1, place1_5 t]

theorem block1_6 (t : Fin grid1.N) (i : Fin 64) (q : Fin 128) :
    @Eq EReal (iblk1 V c 6 t (ix2 i q)) (V c main_v23 (ix2 i ⟨t.val * 128 + q.val, (by have : t.val < 32 := t.isLt; omega)⟩)) := by
  blk_ext [iblk1, place1_6 t]

theorem block1_7 (t : Fin grid1.N) (i : Fin 64) (q : Fin 128) :
    @Eq EReal (iblk1 V c 7 t (ix2 i q)) (V c main_v26 (ix2 i ⟨t.val * 128 + q.val, (by have : t.val < 32 := t.isLt; omega)⟩)) := by
  blk_ext [iblk1, place1_7 t]

theorem place1_8_at (t : Fin grid1.N) (k : Fin 3) (j : Fin 128) :
    ((cfg1.win 8).blk t).view.emb (ix2 k j) = (ix2 k ⟨t.val * 128 + j.val, by have : t.val < 32 := t.isLt; omega⟩ : S3x4096.Idx) := by
  blk_ext [place1_8 t]

theorem place1_9_at (t : Fin grid1.N) (k : Fin 192) (j : Fin 128) :
    ((cfg1.win 9).blk t).view.emb (ix2 k j) = (ix2 k ⟨t.val * 128 + j.val, by have : t.val < 32 := t.isLt; omega⟩ : S192x4096.Idx) := by
  blk_ext [place1_9 t]

/-- The coarse positions of ray `q`. -/
def positions (b : Vec Ideal S2x4096 .f32) (t : Vec Ideal S64x1 .f32) (q : Fin 4096) (i : Fin 64) : EReal :=
  Body.depths (b (ix2 0 q)) (b (ix2 1 q)) (fun i => t (ix2 i 0)) i

/-- The coarse weights of ray `q`. -/
def coarseWeights (d : Vec Ideal S3x4096 .f32) (b : Vec Ideal S2x4096 .f32) (t : Vec Ideal S64x1 .f32) (s : Vec Ideal S64x4096 .f32) (q : Fin 4096) : Fin 64 → EReal :=
  weight (fun i => s (ix2 i q)) (positions b t q) (Ideal.sqrt (∑ x, d (ix2 x q) * d (ix2 x q)))

/-- The coarse colours of ray `q`. -/
def coarseColours (d : Vec Ideal S3x4096 .f32) (b : Vec Ideal S2x4096 .f32) (t : Vec Ideal S64x1 .f32) (x y z s : Vec Ideal S64x4096 .f32) (k : Fin 3) (q : Fin 4096) : EReal :=
  colour (coarseWeights d b t s q) fun i => (![x, y, z] k : Vec Ideal S64x4096 .f32) (ix2 i q)

/-- The fine positions of ray `q`. -/
def finePositions (d : Vec Ideal S3x4096 .f32) (b : Vec Ideal S2x4096 .f32) (t : Vec Ideal S64x1 .f32) (u : Vec Ideal S128x1 .f32) (s : Vec Ideal S64x4096 .f32) (i : Fin 192) (q : Fin 4096) : EReal :=
  merge (tent (positions b t q) fun r => telescoped (positions b t q) (share (coarseWeights d b t s q)) (u (ix2 ⟨127 - r.val, by omega⟩ 0))) (early i)

section
variable (x0 : Vec Ideal S3x128 .f32) (x1 : Vec Ideal S2x128 .f32) (x2 : Vec Ideal S64x1 .f32) (x3 : Vec Ideal S128x1 .f32) (x4 x5 x6 x7 : Vec Ideal S64x128 .f32)

theorem opened1_26 : k1_pay26 x0 x1 x2 x3 x4 x5 x6 x7 = k1_pay1 x1 x1 x2 := by
  unfold k1_pay26
  frame_out

theorem opened1_27 : k1_pay27 x0 x1 x2 x3 x4 x5 x6 x7 = k1_pay2 x1 x1 x2 := by
  unfold k1_pay27
  frame_out

theorem opened1_28 : k1_pay28 x0 x1 x2 x3 x4 x5 x6 x7 = k1_pay4 x0 x1 x1 x2 x7 := by
  unfold k1_pay28
  frame_out

theorem opened1_29 : k1_pay29 x0 x1 x2 x3 x4 x5 x6 x7 = k1_pay5 x0 x1 x1 x2 x7 := by
  unfold k1_pay29
  frame_out

theorem opened1_30 : k1_pay30 x0 x1 x2 x3 x4 x5 x6 x7 = Body.weights x0 x1 x1 x2 x7 := by
  unfold k1_pay30
  rw [opened1_28, opened1_29]

theorem opened1_31 : k1_pay31 x0 x1 x2 x3 x4 x5 x6 x7 = k1_pay10 (Body.weights x0 x1 x1 x2 x7) := by
  unfold k1_pay31
  rw [opened1_30]

theorem opened1_32 : k1_pay32 x0 x1 x2 x3 x4 x5 x6 x7 = k1_pay11 (Body.weights x0 x1 x1 x2 x7) := by
  unfold k1_pay32
  rw [opened1_30]

theorem weights1_col (j : Fin 128) : @Eq (Fin 64 → EReal) (Body.col (Body.weights x0 x1 x1 x2 x7) j) (weight (fun i => x7 (ix2 i j)) (Body.depths (x1 (ix2 0 j)) (x1 (ix2 1 j)) fun i => x2 (ix2 i 0)) (Ideal.sqrt (∑ x, x0 (ix2 x j) * x0 (ix2 x j)))) := by
  refine (Body.weights_col x0 x1 x1 x2 x7 j).trans ?_
  rw [Body.depths_col]
  rfl

theorem colours1_at (k : Fin 3) (j : Fin 128) :
    @Eq EReal (k1_pay9 (k1_pay30 x0 x1 x2 x3 x4 x5 x6 x7) (k1_pay7 (k1_pay28 x0 x1 x2 x3 x4 x5 x6 x7) (k1_pay29 x0 x1 x2 x3 x4 x5 x6 x7) x4) (k1_pay8 x5) (Scalar.ofBits .f32 0x00000000#32) x6 (ix2 k j))
    (colour (weight (fun i => x7 (ix2 i j)) (Body.depths (x1 (ix2 0 j)) (x1 (ix2 1 j)) fun i => x2 (ix2 i 0)) (Ideal.sqrt (∑ x, x0 (ix2 x j) * x0 (ix2 x j)))) fun i => (![x4, x5, x6] k : Vec Ideal S64x128 .f32) (ix2 i j)) := by
  rw [opened1_30, opened1_28, opened1_29]
  refine (Body.colours_at (k1_pay4 x0 x1 x1 x2 x7) (k1_pay5 x0 x1 x1 x2 x7) x4 x5 x6 j k).trans ?_
  exact congrArg (fun w => colour w _) (weights1_col x0 x1 x2 x7 j)

theorem positions1_at (i : Fin 192) (j : Fin 128) :
    @Eq EReal (k1_pay25 (k1_pay33 x0 x1 x2 x3 x4 x5 x6 x7) (k1_pay23 (k1_pay33 x0 x1 x2 x3 x4 x5 x6 x7) (k1_pay21 (k1_pay26 x0 x1 x2 x3 x4 x5 x6 x7) (k1_pay13 x3)
      (k1_pay16 (k1_pay31 x0 x1 x2 x3 x4 x5 x6 x7) (k1_pay32 x0 x1 x2 x3 x4 x5 x6 x7) (Scalar.ofBits .f32 0x00000000#32) x3)
      (k1_pay17 (k1_pay31 x0 x1 x2 x3 x4 x5 x6 x7) (k1_pay32 x0 x1 x2 x3 x4 x5 x6 x7) (Scalar.ofBits .f32 0x00000000#32) x3)
      (k1_pay18 (k1_pay26 x0 x1 x2 x3 x4 x5 x6 x7) (k1_pay27 x0 x1 x2 x3 x4 x5 x6 x7) (k1_pay32 x0 x1 x2 x3 x4 x5 x6 x7) (Scalar.ofBits .f32 0x00000000#32) x3)
      (k1_pay19 (k1_pay27 x0 x1 x2 x3 x4 x5 x6 x7) (k1_pay32 x0 x1 x2 x3 x4 x5 x6 x7) (Scalar.ofBits .f32 0x00000000#32) x3)
      (k1_pay20 (k1_pay26 x0 x1 x2 x3 x4 x5 x6 x7))) k1_pay22) k1_pay24 (ix2 i j))
    (merge (tent (Body.depths (x1 (ix2 0 j)) (x1 (ix2 1 j)) fun i => x2 (ix2 i 0)) fun r =>
      telescoped (Body.depths (x1 (ix2 0 j)) (x1 (ix2 1 j)) fun i => x2 (ix2 i 0)) (share (weight (fun i => x7 (ix2 i j)) (Body.depths (x1 (ix2 0 j)) (x1 (ix2 1 j)) fun i => x2 (ix2 i 0)) (Ideal.sqrt (∑ x, x0 (ix2 x j) * x0 (ix2 x j))))) (x3 (ix2 ⟨127 - r.val, by omega⟩ 0))) (early i)) := by
  rw [opened1_26, opened1_27, opened1_31, opened1_32]
  refine (Body.merged_at _ _ _ _ _ _ _ i j).trans ?_
  refine congrArg (fun f => merge f (early i)) ?_
  refine (Body.stacked_col _ _ _ _ _ _ _ j).trans ?_
  rw [Body.depths_col]
  refine congrArg (tent _) (funext fun r => ?_)
  refine (Body.samples_at x1 x1 x2 (Body.weights x0 x1 x1 x2 x7) x3 _ j).trans ?_
  rw [Body.depths_col, weights1_col]

end

theorem positions1 (t : Fin grid1.N) (j : Fin 128) :
    @Eq (Fin 64 → EReal) (Body.depths (iblk1 V c 1 t (ix2 0 j)) (iblk1 V c 1 t (ix2 1 j)) fun i => iblk1 V c 2 t (ix2 i 0))
      (positions (V c main_v12) (V c main_v2) ⟨t.val * 128 + j.val, by have : t.val < 32 := t.isLt; omega⟩) := by
  funext i
  unfold positions
  rw [block1_1 V c t 0 j, block1_1 V c t 1 j]
  exact congrArg (fun f => Body.depths _ _ f i) (funext fun i => block1_2 V c t i)

theorem weights1 (t : Fin grid1.N) (j : Fin 128) :
    @Eq (Fin 64 → EReal) (weight (fun i => iblk1 V c 7 t (ix2 i j))
        (Body.depths (iblk1 V c 1 t (ix2 0 j)) (iblk1 V c 1 t (ix2 1 j)) fun i => iblk1 V c 2 t (ix2 i 0))
        (Ideal.sqrt (∑ x, @HMul.hMul EReal EReal EReal _ (iblk1 V c 0 t (ix2 x j)) (iblk1 V c 0 t (ix2 x j)))))
      (coarseWeights (V c main_v11) (V c main_v12) (V c main_v2) (V c main_v26) ⟨t.val * 128 + j.val, by have : t.val < 32 := t.isLt; omega⟩) := by
  unfold coarseWeights
  congr 1
  · exact funext fun i => block1_7 V c t i j
  · exact positions1 V c t j
  · refine congrArg Ideal.sqrt (Finset.sum_congr rfl fun x _ => ?_)
    rw [block1_0 V c t x j]

theorem coarse_out : @Eq (Vec Ideal S3x4096 .f32) ((dat1 V c).arrAt 8 cfg1.N)
    (fun i => coarseColours (V c main_v11) (V c main_v12) (V c main_v2) (V c main_v17) (V c main_v20) (V c main_v23) (V c main_v26) (i 0) (i 1)) := by
  refine (dat1 V c).arrAt_eq_of_covers 8 _ (by decide +kernel) fun t hf y => ?_
  obtain ⟨k, j, rfl⟩ : ∃ (k : Fin 3) (j : Fin 128), y = ix2 k j := ⟨y 0, y 1, eq_ix2 y⟩
  rw [place1_8_at]
  blk_simp
  rw [after1_8]
  frame_out
  refine (colours1_at (iblk1 V c 0 t) (iblk1 V c 1 t) (iblk1 V c 2 t) (iblk1 V c 3 t) (iblk1 V c 4 t) (iblk1 V c 5 t) (iblk1 V c 6 t) (iblk1 V c 7 t) k j).trans ?_
  unfold coarseColours
  refine (congrArg (fun w => colour w _) (weights1 V c t j)).trans (congrArg (colour _) (funext fun i => ?_))
  match k with
  | 0 => exact block1_4 V c t i j
  | 1 => exact block1_5 V c t i j
  | 2 => exact block1_6 V c t i j

theorem fine_out : @Eq (Vec Ideal S192x4096 .f32) ((dat1 V c).arrAt 9 cfg1.N)
    (fun i => finePositions (V c main_v11) (V c main_v12) (V c main_v2) (V c main_v5) (V c main_v26) (i 0) (i 1)) := by
  refine (dat1 V c).arrAt_eq_of_covers 9 _ (by decide +kernel) fun t hf y => ?_
  obtain ⟨k, j, rfl⟩ : ∃ (k : Fin 192) (j : Fin 128), y = ix2 k j := ⟨y 0, y 1, eq_ix2 y⟩
  rw [place1_9_at]
  blk_simp
  rw [after1_9]
  frame_out
  refine (positions1_at (iblk1 V c 0 t) (iblk1 V c 1 t) (iblk1 V c 2 t) (iblk1 V c 3 t) (iblk1 V c 4 t) (iblk1 V c 5 t) (iblk1 V c 6 t) (iblk1 V c 7 t) k j).trans ?_
  unfold finePositions
  refine congrArg (fun f => merge f (early k)) ?_
  refine (congrArg (fun z => tent z _) (positions1 V c t j)).trans (congrArg (tent _) (funext fun r => ?_))
  refine (congrArg (fun z => telescoped z _ _) (positions1 V c t j)).trans ?_
  refine (congrArg (fun w => telescoped _ (share w) _) (weights1 V c t j)).trans ?_
  exact congrArg (telescoped _ _) (block1_3 V c t _)

end Cert.Nerf.Kern

end

end
-- ==== Proof.FineNet.lean ====
/- The third launch: the network's outputs at every fine position of every ray. -/
module

public import proofs.«01_k».proof.Proof.Entry

@[expose] public section

set_option maxRecDepth 16384

noncomputable section

namespace Cert.Nerf.Kern

open Idealize.ShloMosaic Idealize.SL.Sem Idealize.ShloMosaic.StableHlo Idealize.ShloMosaic.TcCoe
open Cert.KernelIdeal Cert.KernelIdeal.Gen

variable (V : (c : Dev nD) → (b : Ref sig .tc) → Buf (Elt Ideal) ((c : Thread nD τ).loc b)) (c : Dev nD)

/-- The network's output `k` at column `q`: position `q / 4096` of ray `q % 4096`. -/
def fineNet (o d : Vec Ideal S3x4096 .f32) (z : Vec Ideal S192x1x4096 .f32) (W₁ : Vec Ideal S256x3 .f32) (b₁ : Vec Ideal S256x1 .f32)
    (W₂ : Vec Ideal S4x256 .f32) (b₂ : Vec Ideal S4x1 .f32) (k : Fin 4) (q : Fin 786432) : EReal :=
  network (fun a h => W₁ (ix2 h a)) (fun h => b₁ (ix2 h 0)) (fun h k => W₂ (ix2 k h)) (fun k => b₂ (ix2 k 0))
    (fun a => o (ix2 a ⟨q.val % 4096, by omega⟩)
      + d (ix2 a ⟨q.val % 4096, by omega⟩) * z (ix3 ⟨q.val / 4096, by omega⟩ 0 ⟨q.val % 4096, by omega⟩)) k

theorem place2_0 : ∀ t : Fin grid2.N, win2_0.index t = ![0, 0] := by decide +kernel
theorem place2_1 : ∀ t : Fin grid2.N, win2_1.index t = ![0, 0] := by decide +kernel
theorem place2_2 : ∀ t : Fin grid2.N, win2_2.index t = ![t.val, 0, 0] := by decide +kernel
theorem place2_3 : ∀ t : Fin grid2.N, win2_3.index t = ![0, 0] := by decide +kernel
theorem place2_4 : ∀ t : Fin grid2.N, win2_4.index t = ![0, 0] := by decide +kernel
theorem place2_5 : ∀ t : Fin grid2.N, win2_5.index t = ![0, 0] := by decide +kernel
theorem place2_6 : ∀ t : Fin grid2.N, win2_6.index t = ![0, 0] := by decide +kernel
theorem place2_7 : ∀ t : Fin grid2.N, win2_7.index t = ![0, t.val] := by decide +kernel

theorem block2_0 (t : Fin grid2.N) (a : Fin 3) (q : Fin 4096) :
    @Eq EReal (iblk2 V c 0 t (ix2 a q)) (V c main_v10 (ix2 a q)) := by
  blk_ext [iblk2, place2_0 t]

theorem block2_1 (t : Fin grid2.N) (a : Fin 3) (q : Fin 4096) :
    @Eq EReal (iblk2 V c 1 t (ix2 a q)) (V c main_v11 (ix2 a q)) := by
  blk_ext [iblk2, place2_1 t]

theorem block2_2 (t : Fin grid2.N) (s : Fin 8) (q : Fin 4096) :
    @Eq EReal (iblk2 V c 2 t (ix3 s 0 q)) (V c main_v28 (ix3 ⟨t.val * 8 + s.val, (by have : t.val < 24 := t.isLt; omega)⟩ 0 q)) := by
  blk_ext [iblk2, place2_2 t]

theorem block2_3 (t : Fin grid2.N) (h : Fin 256) (a : Fin 3) :
    @Eq EReal (iblk2 V c 3 t (ix2 h a)) (V c main_v6 (ix2 h a)) := by
  blk_ext [iblk2, place2_3 t]

theorem block2_4 (t : Fin grid2.N) (h : Fin 256) :
    @Eq EReal (iblk2 V c 4 t (ix2 h 0)) (V c main_v8 (ix2 h 0)) := by
  blk_ext [iblk2, place2_4 t]

theorem block2_5 (t : Fin grid2.N) (k : Fin 4) (h : Fin 256) :
    @Eq EReal (iblk2 V c 5 t (ix2 k h)) (V c main_v7 (ix2 k h)) := by
  blk_ext [iblk2, place2_5 t]

theorem block2_6 (t : Fin grid2.N) (k : Fin 4) :
    @Eq EReal (iblk2 V c 6 t (ix2 k 0)) (V c main_v9 (ix2 k 0)) := by
  blk_ext [iblk2, place2_6 t]

theorem place2_out (t : Fin grid2.N) (k : Fin 4) (j : Fin 32768) :
    ((cfg2.win 7).blk t).view.emb (ix2 k j) = (ix2 k ⟨t.val * 32768 + j.val, by have : t.val < 24 := t.isLt; omega⟩ : S4x786432.Idx) := by
  blk_ext [place2_7 t]

theorem fineNet_out : @Eq (Vec Ideal S4x786432 .f32) ((dat2 V c).arrAt 7 cfg2.N)
    (fun i => fineNet (V c main_v10) (V c main_v11) (V c main_v28) (V c main_v6) (V c main_v8) (V c main_v7) (V c main_v9) (i 0) (i 1)) := by
  refine (dat2 V c).arrAt_eq_of_covers 7 _ (by decide +kernel) fun t hf y => ?_
  obtain ⟨k, j, rfl⟩ : ∃ (k : Fin 4) (j : Fin 32768), y = ix2 k j := ⟨y 0, y 1, eq_ix2 y⟩
  rw [place2_out]
  blk_simp
  rw [after2_7]
  frame_out
  refine (Body.net_at _ _ _ _ _ k j).trans ?_
  unfold fineNet
  simp only [Body.points_at, block2_0, block2_1, block2_2, block2_3, block2_4, block2_5, block2_6]
  refine congrArg (fun p => network _ _ _ _ p k) (funext fun a => ?_)
  have hm : (⟨j.val % 4096, by omega⟩ : Fin 4096) = ⟨(t.val * 32768 + j.val) % 4096, by omega⟩ := Fin.ext (show j.val % 4096 = (t.val * 32768 + j.val) % 4096 by omega)
  have hd : (⟨t.val * 8 + j.val / 4096, by have : t.val < 24 := t.isLt; omega⟩ : Fin 192) = ⟨(t.val * 32768 + j.val) / 4096, by have : t.val < 24 := t.isLt; omega⟩ :=
    Fin.ext (show t.val * 8 + j.val / 4096 = (t.val * 32768 + j.val) / 4096 by omega)
  rw [hm, hd]
  rfl

end Cert.Nerf.Kern

end

end
-- ==== Proof.Fine.lean ====
/- The fourth kernel's body read at an index: the weights of the fine pass, and the colours, depth and opacity. -/
module

public import proofs.«01_k».proof.Proof.Coarse

@[expose] public section

set_option maxRecDepth 16384

noncomputable section

namespace Cert.Nerf.Body

open Idealize.ShloMosaic Idealize.SL.Sem
open Cert.KernelIdeal Cert.KernelIdeal.Gen

section
variable (d : Vec Ideal S3x128 .f32) (z s : Vec Ideal S192x128 .f32)

theorem fine_atten_col (j : Fin 128) : col (k3_pay5 d z s) j = atten (col s j) (col z j) (len d j) := by
  funext i
  unfold col
  pointwise [k3_pay5, k3_pay4]
  unfold atten gap len
  rw [zero_sub]
  by_cases h : i.val < 191
  · rw [dif_pos h, dif_pos (show i.val + 1 < 192 by omega)]
    simp only [Nat.add_comm 1]
  · rw [dif_neg h, dif_neg (show ¬ i.val + 1 < 192 by omega)]
    rfl

theorem fine_alpha_col (j : Fin 128) (i : Fin 192) :
    k3_pay6 d z s (ix2 i j) = 1 - atten (col s j) (col z j) (len d j) i := by
  pointwise [k3_pay6]
  rw [← fine_atten_col]

/-- What the running product is taken of. -/
def fineFactor : FVec Ideal S192x128 .f32 := addf (k3_pay5 d z s) (broadcast S192x128 (Scalar.ofBits .f32 0x2EDBE6FF#32))

theorem fineFactor_col (j : Fin 128) :
    col (fineFactor d z s) j = fun i => atten (col s j) (col z j) (len d j) i + tiny := by
  funext i
  unfold col
  pointwise [fineFactor]
  rw [← fine_atten_col]
  rfl

/-- The running sum of eight shifted additions. -/
def fineSums (x : FVec Ideal S192x128 .f32) : FVec Ideal S192x128 .f32 :=
  fineShift128 (fineShift64 (fineShift32 (fineShift16 (fineShift8 (fineShift4 (fineShift2 (fineShift1 x)))))))

theorem fineSums_col (x : FVec Ideal S192x128 .f32) (j : Fin 128) : col (fineSums x) j = upto (col x j) := by
  unfold fineSums
  rw [fineShift128_col, fineShift64_col, fineShift32_col, fineShift16_col, fineShift8_col, fineShift4_col, fineShift2_col,
    fineShift1_col, eight_shifts]

/-- The weights the body computes. -/
abbrev fineWeights : FVec Ideal S192x128 .f32 := k3_pay9 (k3_pay6 d z s) (k3_pay7 d z s) (k3_pay8 d z s)

theorem fineWeights_eq : fineWeights d z s = mulf (k3_pay6 d z s) (exp (concatenate S192x128 0
    [⟨S1x128, broadcast S1x128 (Scalar.ofBits .f32 0x00000000#32)⟩,
      ⟨S191x128, extractStridedSlice S191x128 ![0, 0] (fineSums (log (fineFactor d z s))) slices_S192x128_o0_0_S191x128⟩]
    concatenates_S1x128_S191x128_S192x128_d0)) := rfl

theorem fineWeights_col (j : Fin 128) : col (fineWeights d z s) j = weight (col s j) (col z j) (len d j) := by
  funext i
  have hf : ∀ i, 0 < col (fineFactor d z s) j i := fun i => by rw [fineFactor_col]; exact factor_pos _ _ _ _
  unfold weight
  rw [← fineFactor_col, ← fine_alpha_col, ← exp_shifted_upto _ hf i, fineWeights_eq]
  unfold col
  pointwise []
  congr 2
  by_cases h : i.val < 1
  · rw [dif_pos h, if_pos h]
  · rw [dif_neg h, if_neg h]
    exact congrFun (fineSums_col (log (fineFactor d z s)) j) ⟨i.val - 1, by omega⟩

end

section
variable (a f g x y v : FVec Ideal S192x128 .f32)

theorem fine_red_at (j : Fin 128) : k3_pay10 a f g x (ix2 0 j) = colour (col (k3_pay9 a f g) j) (col x j) := by
  unfold colour squash
  pointwise [k3_pay10]
  simp only [zero_sub]

theorem fine_colours_at (j : Fin 128) (k : Fin 3) :
    k3_pay1 (k3_pay9 a f g) (k3_pay10 a f g x) (k3_pay11 a f g y) v (ix2 k j)
      = colour (col (k3_pay9 a f g) j) (col (![x, y, v] k) j) := by
  fin_cases k
  · exact Eq.trans (by pointwise [k3_pay1]) (fine_red_at a f g x j)
  · unfold colour squash
    pointwise [k3_pay1, k3_pay11]
    simp
  · unfold colour squash
    pointwise [k3_pay1]
    simp

theorem depth_at (w : FVec Ideal S192x128 .f32) (z : Vec Ideal S192x128 .f32) (j : Fin 128) :
    k3_pay2 (k3_pay4 z) w (ix2 0 j) = ∑ i : Fin 192, w (ix2 i j) * z (ix2 i j) := by
  pointwise [k3_pay2, k3_pay4]

theorem opacity_at (w : FVec Ideal S192x128 .f32) (j : Fin 128) :
    k3_pay3 w (ix2 0 j) = ∑ i : Fin 192, w (ix2 i j) := by
  pointwise [k3_pay3]

end

end Cert.Nerf.Body

end

end
-- ==== Proof.Renders.lean ====
/- The fourth launch: the weights, colours, depth and opacity of every ray. -/
module

public import proofs.«01_k».proof.Proof.Entry
public import proofs.«01_k».proof.Proof.Fine

@[expose] public section

set_option maxRecDepth 16384

noncomputable section

namespace Cert.Nerf.Kern

open Idealize.ShloMosaic Idealize.SL.Sem Idealize.ShloMosaic.StableHlo Idealize.ShloMosaic.TcCoe
open Cert.KernelIdeal Cert.KernelIdeal.Gen

variable (V : (c : Dev nD) → (b : Ref sig .tc) → Buf (Elt Ideal) ((c : Thread nD τ).loc b)) (c : Dev nD)

theorem place3_0 : ∀ t : Fin grid3.N, win3_0.index t = ![0, t.val] := by decide +kernel
theorem place3_1 : ∀ t : Fin grid3.N, win3_1.index t = ![0, t.val] := by decide +kernel
theorem place3_2 : ∀ t : Fin grid3.N, win3_2.index t = ![0, t.val] := by decide +kernel
theorem place3_3 : ∀ t : Fin grid3.N, win3_3.index t = ![0, t.val] := by decide +kernel
theorem place3_4 : ∀ t : Fin grid3.N, win3_4.index t = ![0, t.val] := by decide +kernel
theorem place3_5 : ∀ t : Fin grid3.N, win3_5.index t = ![0, t.val] := by decide +kernel
theorem place3_6 : ∀ t : Fin grid3.N, win3_6.index t = ![0, t.val] := by decide +kernel
theorem place3_7 : ∀ t : Fin grid3.N, win3_7.index t = ![0, t.val] := by decide +kernel
theorem place3_8 : ∀ t : Fin grid3.N, win3_8.index t = ![0, t.val] := by decide +kernel
theorem place3_9 : ∀ t : Fin grid3.N, win3_9.index t = ![0, t.val] := by decide +kernel

theorem block3_0 (t : Fin grid3.N) (a : Fin 3) (q : Fin 128) :
    @Eq EReal (iblk3 V c 0 t (ix2 a q)) (V c main_v11 (ix2 a ⟨t.val * 128 + q.val, (by have : t.val < 32 := t.isLt; omega)⟩)) := by
  blk_ext [iblk3, place3_0 t]

theorem block3_1 (t : Fin grid3.N) (i : Fin 192) (q : Fin 128) :
    @Eq EReal (iblk3 V c 1 t (ix2 i q)) (V c main_v27_1 (ix2 i ⟨t.val * 128 + q.val, (by have : t.val < 32 := t.isLt; omega)⟩)) := by
  blk_ext [iblk3, place3_1 t]

theorem block3_2 (t : Fin grid3.N) (i : Fin 192) (q : Fin 128) :
    @Eq EReal (iblk3 V c 2 t (ix2 i q)) (V c main_v32 (ix2 i ⟨t.val * 128 + q.val, (by have : t.val < 32 := t.isLt; omega)⟩)) := by
  blk_ext [iblk3, place3_2 t]

theorem block3_3 (t : Fin grid3.N) (i : Fin 192) (q : Fin 128) :
    @Eq EReal (iblk3 V c 3 t (ix2 i q)) (V c main_v35 (ix2 i ⟨t.val * 128 + q.val, (by have : t.val < 32 := t.isLt; omega)⟩)) := by
  blk_ext [iblk3, place3_3 t]

theorem block3_4 (t : Fin grid3.N) (i : Fin 192) (q : Fin 128) :
    @Eq EReal (iblk3 V c 4 t (ix2 i q)) (V c main_v38 (ix2 i ⟨t.val * 128 + q.val, (by have : t.val < 32 := t.isLt; omega)⟩)) := by
  blk_ext [iblk3, place3_4 t]

theorem block3_5 (t : Fin grid3.N) (i : Fin 192) (q : Fin 128) :
    @Eq EReal (iblk3 V c 5 t (ix2 i q)) (V c main_v41 (ix2 i ⟨t.val * 128 + q.val, (by have : t.val < 32 := t.isLt; omega)⟩)) := by
  blk_ext [iblk3, place3_5 t]

theorem place3_6_at (t : Fin grid3.N) (k : Fin 3) (j : Fin 128) :
    ((cfg3.win 6).blk t).view.emb (ix2 k j) = (ix2 k ⟨t.val * 128 + j.val, by have : t.val < 32 := t.isLt; omega⟩ : S3x4096.Idx) := by
  blk_ext [place3_6 t]

theorem place3_7_at (t : Fin grid3.N) (k : Fin 1) (j : Fin 128) :
    ((cfg3.win 7).blk t).view.emb (ix2 k j) = (ix2 k ⟨t.val * 128 + j.val, by have : t.val < 32 := t.isLt; omega⟩ : S1x4096.Idx) := by
  blk_ext [place3_7 t]

theorem place3_8_at (t : Fin grid3.N) (k : Fin 1) (j : Fin 128) :
    ((cfg3.win 8).blk t).view.emb (ix2 k j) = (ix2 k ⟨t.val * 128 + j.val, by have : t.val < 32 := t.isLt; omega⟩ : S1x4096.Idx) := by
  blk_ext [place3_8 t]

theorem place3_9_at (t : Fin grid3.N) (k : Fin 192) (j : Fin 128) :
    ((cfg3.win 9).blk t).view.emb (ix2 k j) = (ix2 k ⟨t.val * 128 + j.val, by have : t.val < 32 := t.isLt; omega⟩ : S192x4096.Idx) := by
  blk_ext [place3_9 t]

/-- The weights of ray `q` at its fine positions. -/
def fineWeights (d : Vec Ideal S3x4096 .f32) (z s : Vec Ideal S192x4096 .f32) (q : Fin 4096) : Fin 192 → EReal :=
  weight (fun i => s (ix2 i q)) (fun i => z (ix2 i q)) (Ideal.sqrt (∑ x, d (ix2 x q) * d (ix2 x q)))

/-- The colours of ray `q`. -/
def fineColours (d : Vec Ideal S3x4096 .f32) (z x y v s : Vec Ideal S192x4096 .f32) (k : Fin 3) (q : Fin 4096) : EReal :=
  colour (fineWeights d z s q) fun i => (![x, y, v] k : Vec Ideal S192x4096 .f32) (ix2 i q)

section
variable (x0 : Vec Ideal S3x128 .f32) (x1 x2 x3 x4 x5 : Vec Ideal S192x128 .f32)

theorem opened3_12 : k3_pay12 x0 x1 x2 x3 x4 x5 = k3_pay6 x0 x1 x5 := by
  unfold k3_pay12
  frame_out

theorem opened3_13 : k3_pay13 x0 x1 x2 x3 x4 x5 = k3_pay7 x0 x1 x5 := by
  unfold k3_pay13
  frame_out

theorem opened3_14 : k3_pay14 x0 x1 x2 x3 x4 x5 = k3_pay8 x0 x1 x5 := by
  unfold k3_pay14
  frame_out

theorem opened3_15 : k3_pay15 x0 x1 x2 x3 x4 x5 = k3_pay9 (k3_pay6 x0 x1 x5) (k3_pay7 x0 x1 x5) (k3_pay8 x0 x1 x5) := by
  unfold k3_pay15
  rw [opened3_12, opened3_13, opened3_14]

theorem absorbed3_at (i : Fin 192) (j : Fin 128) : @Eq EReal (k3_pay15 x0 x1 x2 x3 x4 x5 (ix2 i j))
    (weight (fun i => x5 (ix2 i j)) (fun i => x1 (ix2 i j)) (Ideal.sqrt (∑ x, x0 (ix2 x j) * x0 (ix2 x j))) i) := by
  rw [opened3_15]
  exact congrFun (Body.fineWeights_col x0 x1 x5 j) i

theorem colours3_at (k : Fin 3) (j : Fin 128) :
    @Eq EReal (k3_pay1 (k3_pay15 x0 x1 x2 x3 x4 x5) (k3_pay10 (k3_pay12 x0 x1 x2 x3 x4 x5) (k3_pay13 x0 x1 x2 x3 x4 x5) (k3_pay14 x0 x1 x2 x3 x4 x5) x2)
      (k3_pay11 (k3_pay12 x0 x1 x2 x3 x4 x5) (k3_pay13 x0 x1 x2 x3 x4 x5) (k3_pay14 x0 x1 x2 x3 x4 x5) x3) x4 (ix2 k j))
    (colour (weight (fun i => x5 (ix2 i j)) (fun i => x1 (ix2 i j)) (Ideal.sqrt (∑ x, x0 (ix2 x j) * x0 (ix2 x j))))
      fun i => (![x2, x3, x4] k : Vec Ideal S192x128 .f32) (ix2 i j)) := by
  rw [opened3_15, opened3_12, opened3_13, opened3_14]
  refine (Body.fine_colours_at (k3_pay6 x0 x1 x5) (k3_pay7 x0 x1 x5) (k3_pay8 x0 x1 x5) x2 x3 x4 j k).trans ?_
  exact congrArg (fun w => colour w _) (Body.fineWeights_col x0 x1 x5 j)

theorem depth3_at (k : Fin 1) (j : Fin 128) : @Eq EReal (k3_pay2 (k3_pay4 x1) (k3_pay15 x0 x1 x2 x3 x4 x5) (ix2 k j))
    (∑ i : Fin 192, @HMul.hMul EReal EReal EReal _ (weight (fun i => x5 (ix2 i j)) (fun i => x1 (ix2 i j)) (Ideal.sqrt (∑ x, x0 (ix2 x j) * x0 (ix2 x j))) i) (x1 (ix2 i j))) := by
  obtain rfl : k = 0 := Subsingleton.elim _ _
  refine (Body.depth_at _ x1 j).trans (Finset.sum_congr rfl fun i _ => ?_)
  exact congrArg (fun w : EReal => w * x1 (ix2 i j)) (absorbed3_at x0 x1 x2 x3 x4 x5 i j)

theorem opacity3_at (k : Fin 1) (j : Fin 128) : @Eq EReal (k3_pay3 (k3_pay15 x0 x1 x2 x3 x4 x5) (ix2 k j))
    (∑ i : Fin 192, weight (fun i => x5 (ix2 i j)) (fun i => x1 (ix2 i j)) (Ideal.sqrt (∑ x, x0 (ix2 x j) * x0 (ix2 x j))) i) := by
  obtain rfl : k = 0 := Subsingleton.elim _ _
  exact (Body.opacity_at _ j).trans (Finset.sum_congr rfl fun i _ => absorbed3_at x0 x1 x2 x3 x4 x5 i j)

end

theorem weights3 (t : Fin grid3.N) (j : Fin 128) :
    @Eq (Fin 192 → EReal) (weight (fun i => iblk3 V c 5 t (ix2 i j)) (fun i => iblk3 V c 1 t (ix2 i j))
        (Ideal.sqrt (∑ x, @HMul.hMul EReal EReal EReal _ (iblk3 V c 0 t (ix2 x j)) (iblk3 V c 0 t (ix2 x j)))))
      (fineWeights (V c main_v11) (V c main_v27_1) (V c main_v41) ⟨t.val * 128 + j.val, by have : t.val < 32 := t.isLt; omega⟩) := by
  unfold fineWeights
  congr 1
  · exact funext fun i => block3_5 V c t i j
  · exact funext fun i => block3_1 V c t i j
  · refine congrArg Ideal.sqrt (Finset.sum_congr rfl fun x _ => ?_)
    rw [block3_0 V c t x j]

theorem out6 : @Eq (Vec Ideal S3x4096 .f32) ((dat3 V c).arrAt 6 cfg3.N)
    (fun i => fineColours (V c main_v11) (V c main_v27_1) (V c main_v32) (V c main_v35) (V c main_v38) (V c main_v41) (i 0) (i 1)) := by
  refine (dat3 V c).arrAt_eq_of_covers 6 _ (by decide +kernel) fun t hf y => ?_
  obtain ⟨k, j, rfl⟩ : ∃ (k : Fin 3) (j : Fin 128), y = ix2 k j := ⟨y 0, y 1, eq_ix2 y⟩
  rw [place3_6_at]
  blk_simp
  rw [after3_6]
  frame_out
  refine (colours3_at (iblk3 V c 0 t) (iblk3 V c 1 t) (iblk3 V c 2 t) (iblk3 V c 3 t) (iblk3 V c 4 t) (iblk3 V c 5 t) k j).trans ?_
  unfold fineColours
  refine (congrArg (fun w => colour w _) (weights3 V c t j)).trans (congrArg (colour _) (funext fun i => ?_))
  match k with
  | 0 => exact block3_2 V c t i j
  | 1 => exact block3_3 V c t i j
  | 2 => exact block3_4 V c t i j

theorem out7 : @Eq (Vec Ideal S1x4096 .f32) ((dat3 V c).arrAt 7 cfg3.N)
    (fun i => ∑ k, @HMul.hMul EReal EReal EReal _ (fineWeights (V c main_v11) (V c main_v27_1) (V c main_v41) (i 1) k) (V c main_v27_1 (ix2 k (i 1)))) := by
  refine (dat3 V c).arrAt_eq_of_covers 7 _ (by decide +kernel) fun t hf y => ?_
  obtain ⟨k, j, rfl⟩ : ∃ (k : Fin 1) (j : Fin 128), y = ix2 k j := ⟨y 0, y 1, eq_ix2 y⟩
  rw [place3_7_at]
  blk_simp
  rw [after3_7]
  frame_out
  refine (depth3_at (iblk3 V c 0 t) (iblk3 V c 1 t) (iblk3 V c 2 t) (iblk3 V c 3 t) (iblk3 V c 4 t) (iblk3 V c 5 t) k j).trans (Finset.sum_congr rfl fun i _ => ?_)
  exact congrArg₂ (fun x y : EReal => x * y) (congrFun (weights3 V c t j) i) (block3_1 V c t i j)

theorem out8 : @Eq (Vec Ideal S1x4096 .f32) ((dat3 V c).arrAt 8 cfg3.N)
    (fun i => ∑ k, fineWeights (V c main_v11) (V c main_v27_1) (V c main_v41) (i 1) k) := by
  refine (dat3 V c).arrAt_eq_of_covers 8 _ (by decide +kernel) fun t hf y => ?_
  obtain ⟨k, j, rfl⟩ : ∃ (k : Fin 1) (j : Fin 128), y = ix2 k j := ⟨y 0, y 1, eq_ix2 y⟩
  rw [place3_8_at]
  blk_simp
  rw [after3_8]
  frame_out
  refine (opacity3_at (iblk3 V c 0 t) (iblk3 V c 1 t) (iblk3 V c 2 t) (iblk3 V c 3 t) (iblk3 V c 4 t) (iblk3 V c 5 t) k j).trans (Finset.sum_congr rfl fun i _ => ?_)
  exact congrFun (weights3 V c t j) i

theorem out9 : @Eq (Vec Ideal S192x4096 .f32) ((dat3 V c).arrAt 9 cfg3.N)
    (fun i => fineWeights (V c main_v11) (V c main_v27_1) (V c main_v41) (i 1) (i 0)) := by
  refine (dat3 V c).arrAt_eq_of_covers 9 _ (by decide +kernel) fun t hf y => ?_
  obtain ⟨k, j, rfl⟩ : ∃ (k : Fin 192) (j : Fin 128), y = ix2 k j := ⟨y 0, y 1, eq_ix2 y⟩
  rw [place3_9_at]
  blk_simp
  rw [after3_9]
  frame_out
  exact (absorbed3_at (iblk3 V c 0 t) (iblk3 V c 1 t) (iblk3 V c 2 t) (iblk3 V c 3 t) (iblk3 V c 4 t) (iblk3 V c 5 t) k j).trans (congrFun (weights3 V c t j) k)

end Cert.Nerf.Kern

end

end
-- ==== Proof.Chain.lean ====
/- The kernel's results, launch after launch, in the scene's words. -/
module

public import proofs.«01_k».proof.Proof.CoarseNet
public import proofs.«01_k».proof.Proof.Draws
public import proofs.«01_k».proof.Proof.FineNet
public import proofs.«01_k».proof.Proof.Renders

@[expose] public section

set_option maxRecDepth 16384

noncomputable section

namespace Cert.Nerf

/-- The fine positions of ray `j`, put in order: the coarse ones and the drawn ones. -/
def Scene.refined (S : Scene) (j : Fin 4096) (i : Fin 192) : EReal :=
  merge (tent (S.coarse j) fun r => telescoped (S.coarse j) (S.shares j) (grid 128 r)) (early i)

namespace Kern

open Idealize.ShloMosaic Idealize.SL.Sem Idealize.ShloMosaic.StableHlo Idealize.ShloMosaic.TcCoe
open Cert.KernelIdeal Cert.KernelIdeal.Gen

section
variable (S : Scene)

theorem coarseNet_eq (o d : Vec Ideal S3x4096 .f32) (b : Vec Ideal S2x4096 .f32) (t : Vec Ideal S64x1x1 .f32) (W₁ : Vec Ideal S256x3 .f32)
    (b₁ : Vec Ideal S256x1 .f32) (W₂ : Vec Ideal S4x256 .f32) (b₂ : Vec Ideal S4x1 .f32)
    (ho : ∀ a j, @Eq EReal (o (ix2 a j)) (S.origin j a)) (hd : ∀ a j, @Eq EReal (d (ix2 a j)) (S.direction j a))
    (hn : ∀ j, @Eq EReal (b (ix2 0 j)) (S.near j)) (hf : ∀ j, @Eq EReal (b (ix2 1 j)) (S.far j))
    (ht : ∀ i, @Eq EReal (t (ix3 i 0 0)) (grid 64 i))
    (hW₁ : ∀ h a, @Eq EReal (W₁ (ix2 h a)) (S.W₁ a h)) (hb₁ : ∀ h, @Eq EReal (b₁ (ix2 h 0)) (S.b₁ h))
    (hW₂ : ∀ k h, @Eq EReal (W₂ (ix2 k h)) (S.W₂ h k)) (hb₂ : ∀ k, @Eq EReal (b₂ (ix2 k 0)) (S.b₂ k))
    (k : Fin 4) (i : Fin 64) (j : Fin 4096) :
    coarseNet o d b t W₁ b₁ W₂ b₂ k ⟨i.val * 4096 + j.val, by omega⟩ = S.raw j (S.coarse j i) k := by
  have hm : (⟨(i.val * 4096 + j.val) % 4096, by omega⟩ : Fin 4096) = j := Fin.ext (show (i.val * 4096 + j.val) % 4096 = j.val by omega)
  have hq : (⟨(i.val * 4096 + j.val) / 4096, by omega⟩ : Fin 64) = i := Fin.ext (show (i.val * 4096 + j.val) / 4096 = i.val by omega)
  unfold coarseNet Scene.raw Scene.point Scene.coarse
  simp only [hm, hq, ho, hd, hn, hf, ht, hW₁, hb₁, hW₂, hb₂]

theorem fineNet_eq (o d : Vec Ideal S3x4096 .f32) (z : Vec Ideal S192x1x4096 .f32) (W₁ : Vec Ideal S256x3 .f32)
    (b₁ : Vec Ideal S256x1 .f32) (W₂ : Vec Ideal S4x256 .f32) (b₂ : Vec Ideal S4x1 .f32) (p : Fin 4096 → Fin 192 → EReal)
    (ho : ∀ a j, @Eq EReal (o (ix2 a j)) (S.origin j a)) (hd : ∀ a j, @Eq EReal (d (ix2 a j)) (S.direction j a))
    (hz : ∀ i j, @Eq EReal (z (ix3 i 0 j)) (p j i))
    (hW₁ : ∀ h a, @Eq EReal (W₁ (ix2 h a)) (S.W₁ a h)) (hb₁ : ∀ h, @Eq EReal (b₁ (ix2 h 0)) (S.b₁ h))
    (hW₂ : ∀ k h, @Eq EReal (W₂ (ix2 k h)) (S.W₂ h k)) (hb₂ : ∀ k, @Eq EReal (b₂ (ix2 k 0)) (S.b₂ k))
    (k : Fin 4) (i : Fin 192) (j : Fin 4096) :
    fineNet o d z W₁ b₁ W₂ b₂ k ⟨i.val * 4096 + j.val, by omega⟩ = S.raw j (p j i) k := by
  have hm : (⟨(i.val * 4096 + j.val) % 4096, by omega⟩ : Fin 4096) = j := Fin.ext (show (i.val * 4096 + j.val) % 4096 = j.val by omega)
  have hq : (⟨(i.val * 4096 + j.val) / 4096, by omega⟩ : Fin 192) = i := Fin.ext (show (i.val * 4096 + j.val) / 4096 = i.val by omega)
  unfold fineNet Scene.raw Scene.point
  simp only [hm, hq, ho, hd, hz, hW₁, hb₁, hW₂, hb₂]

theorem positions_eq (b : Vec Ideal S2x4096 .f32) (t : Vec Ideal S64x1 .f32)
    (hn : ∀ j, @Eq EReal (b (ix2 0 j)) (S.near j)) (hf : ∀ j, @Eq EReal (b (ix2 1 j)) (S.far j))
    (ht : ∀ i, @Eq EReal (t (ix2 i 0)) (grid 64 i)) (j : Fin 4096) : positions b t j = S.coarse j := by
  funext i
  unfold positions Scene.coarse
  simp only [hn, hf, ht]

theorem coarseWeights_eq (d : Vec Ideal S3x4096 .f32) (b : Vec Ideal S2x4096 .f32) (t : Vec Ideal S64x1 .f32) (s : Vec Ideal S64x4096 .f32)
    (hd : ∀ a j, @Eq EReal (d (ix2 a j)) (S.direction j a))
    (hn : ∀ j, @Eq EReal (b (ix2 0 j)) (S.near j)) (hf : ∀ j, @Eq EReal (b (ix2 1 j)) (S.far j))
    (ht : ∀ i, @Eq EReal (t (ix2 i 0)) (grid 64 i)) (hs : ∀ i j, @Eq EReal (s (ix2 i j)) (S.raw j (S.coarse j i) 3))
    (j : Fin 4096) : coarseWeights d b t s j = S.weights j (S.coarse j) := by
  unfold coarseWeights Scene.weights Scene.norm
  simp only [hd, hs, positions_eq S b t hn hf ht]

theorem coarseColours_eq (d : Vec Ideal S3x4096 .f32) (b : Vec Ideal S2x4096 .f32) (t : Vec Ideal S64x1 .f32) (x y z s : Vec Ideal S64x4096 .f32)
    (hd : ∀ a j, @Eq EReal (d (ix2 a j)) (S.direction j a))
    (hn : ∀ j, @Eq EReal (b (ix2 0 j)) (S.near j)) (hf : ∀ j, @Eq EReal (b (ix2 1 j)) (S.far j))
    (ht : ∀ i, @Eq EReal (t (ix2 i 0)) (grid 64 i)) (hx : ∀ i j, @Eq EReal (x (ix2 i j)) (S.raw j (S.coarse j i) 0))
    (hy : ∀ i j, @Eq EReal (y (ix2 i j)) (S.raw j (S.coarse j i) 1)) (hz : ∀ i j, @Eq EReal (z (ix2 i j)) (S.raw j (S.coarse j i) 2))
    (hs : ∀ i j, @Eq EReal (s (ix2 i j)) (S.raw j (S.coarse j i) 3))
    (k : Fin 3) (j : Fin 4096) : coarseColours d b t x y z s k j = S.colours j (S.coarse j) k := by
  unfold coarseColours Scene.colours
  rw [coarseWeights_eq S d b t s hd hn hf ht hs]
  refine congrArg (colour _) (funext fun i => ?_)
  match k with
  | 0 => exact hx i j
  | 1 => exact hy i j
  | 2 => exact hz i j

theorem finePositions_eq (d : Vec Ideal S3x4096 .f32) (b : Vec Ideal S2x4096 .f32) (t : Vec Ideal S64x1 .f32) (u : Vec Ideal S128x1 .f32)
    (s : Vec Ideal S64x4096 .f32) (hd : ∀ a j, @Eq EReal (d (ix2 a j)) (S.direction j a))
    (hn : ∀ j, @Eq EReal (b (ix2 0 j)) (S.near j)) (hf : ∀ j, @Eq EReal (b (ix2 1 j)) (S.far j))
    (ht : ∀ i, @Eq EReal (t (ix2 i 0)) (grid 64 i)) (hu : ∀ r : Fin 128, @Eq EReal (u (ix2 r 0)) (grid 128 ⟨127 - r.val, by omega⟩))
    (hs : ∀ i j, @Eq EReal (s (ix2 i j)) (S.raw j (S.coarse j i) 3))
    (i : Fin 192) (j : Fin 4096) : finePositions d b t u s i j = S.refined j i := by
  have hr : ∀ r : Fin 128, (⟨127 - (127 - r.val), by omega⟩ : Fin 128) = r := fun r => Fin.ext (show 127 - (127 - r.val) = r.val by omega)
  unfold finePositions Scene.refined Scene.shares
  rw [coarseWeights_eq S d b t s hd hn hf ht hs, positions_eq S b t hn hf ht]
  simp only [hu, hr]

theorem fineWeights_eq (d : Vec Ideal S3x4096 .f32) (z s : Vec Ideal S192x4096 .f32) (p : Fin 4096 → Fin 192 → EReal)
    (hd : ∀ a j, @Eq EReal (d (ix2 a j)) (S.direction j a)) (hz : ∀ i j, @Eq EReal (z (ix2 i j)) (p j i))
    (hs : ∀ i j, @Eq EReal (s (ix2 i j)) (S.raw j (p j i) 3)) (j : Fin 4096) : fineWeights d z s j = S.weights j (p j) := by
  unfold fineWeights Scene.weights Scene.norm
  simp only [hd, hs, hz]

theorem fineColours_eq (d : Vec Ideal S3x4096 .f32) (z x y v s : Vec Ideal S192x4096 .f32) (p : Fin 4096 → Fin 192 → EReal)
    (hd : ∀ a j, @Eq EReal (d (ix2 a j)) (S.direction j a)) (hz : ∀ i j, @Eq EReal (z (ix2 i j)) (p j i))
    (hx : ∀ i j, @Eq EReal (x (ix2 i j)) (S.raw j (p j i) 0)) (hy : ∀ i j, @Eq EReal (y (ix2 i j)) (S.raw j (p j i) 1))
    (hv : ∀ i j, @Eq EReal (v (ix2 i j)) (S.raw j (p j i) 2)) (hs : ∀ i j, @Eq EReal (s (ix2 i j)) (S.raw j (p j i) 3))
    (k : Fin 3) (j : Fin 4096) : fineColours d z x y v s k j = S.colours j (p j) k := by
  unfold fineColours Scene.colours
  rw [fineWeights_eq S d z s p hd hz hs]
  refine congrArg (colour _) (funext fun i => ?_)
  match k with
  | 0 => exact hx i j
  | 1 => exact hy i j
  | 2 => exact hv i j

end

variable (m : (a : Loc nD τ sig) → Buf (Elt Ideal) a) (ρ : Dev nD → PrngReg) (c : Dev nD)

theorem coarse_raw_at (k : Fin 4) (i : Fin 64) (j : Fin 4096) :
    @Eq EReal (W6 m ρ c (Proc.devRef .tc main_v14) (ix2 k ⟨i.val * 4096 + j.val, by omega⟩)) ((scene m c).raw j ((scene m c).coarse j i) k) :=
  (congrFun ((W6_arr m ρ c 8).trans (coarseNet_out (V5 m ρ) c)) _).trans
    (coarseNet_eq (scene m c) _ _ _ _ _ _ _ _ (origin_at m ρ c) (direction_at m ρ c) (near_at m ρ c) (far_at m ρ c) (t_block_at m ρ c)
      (W₁_at m ρ c) (b₁_at m ρ c) (W₂_at m ρ c) (b₂_at m ρ c) k i j)

theorem kept7 (r : Ref sig .tc) (h : r ∉ hostOps1_W) (h' : ∀ w : Fin cfg0.W, Pipeline.arrRef spec0 w = r → (cfg0.win w).isOut = false) :
    W7 m ρ c (Proc.devRef .tc r) = W5 m ρ c (Proc.devRef .tc r) :=
  (W7_of m ρ c r h).trans (W6_of m ρ c r h')

theorem direction7 (a : Fin 3) (j : Fin 4096) : @Eq EReal (V7 m ρ c main_v11 (ix2 a j)) ((scene m c).direction j a) :=
  (congrFun (kept7 m ρ c main_v11 (by decide) (by decide)) _).trans (direction_at m ρ c a j)
theorem near7 (j : Fin 4096) : @Eq EReal (V7 m ρ c main_v12 (ix2 0 j)) ((scene m c).near j) :=
  (congrFun (kept7 m ρ c main_v12 (by decide) (by decide)) _).trans (near_at m ρ c j)
theorem far7 (j : Fin 4096) : @Eq EReal (V7 m ρ c main_v12 (ix2 1 j)) ((scene m c).far j) :=
  (congrFun (kept7 m ρ c main_v12 (by decide) (by decide)) _).trans (far_at m ρ c j)
theorem t7 (i : Fin 64) : @Eq EReal (V7 m ρ c main_v2 (ix2 i 0)) (grid 64 i) :=
  (congrFun (kept7 m ρ c main_v2 (by decide) (by decide)) _).trans (t_at m ρ c i)
theorem u7 (r : Fin 128) : @Eq EReal (V7 m ρ c main_v5 (ix2 r 0)) (grid 128 ⟨127 - r.val, by omega⟩) :=
  (congrFun (kept7 m ρ c main_v5 (by decide) (by decide)) _).trans (u_at m ρ c r)
theorem red7 (i : Fin 64) (j : Fin 4096) : @Eq EReal (V7 m ρ c main_v17 (ix2 i j)) ((scene m c).raw j ((scene m c).coarse j i) 0) :=
  (coarse_slice0_at m ρ c i j).trans (coarse_raw_at m ρ c 0 i j)
theorem green7 (i : Fin 64) (j : Fin 4096) : @Eq EReal (V7 m ρ c main_v20 (ix2 i j)) ((scene m c).raw j ((scene m c).coarse j i) 1) :=
  (coarse_slice1_at m ρ c i j).trans (coarse_raw_at m ρ c 1 i j)
theorem blue7 (i : Fin 64) (j : Fin 4096) : @Eq EReal (V7 m ρ c main_v23 (ix2 i j)) ((scene m c).raw j ((scene m c).coarse j i) 2) :=
  (coarse_slice2_at m ρ c i j).trans (coarse_raw_at m ρ c 2 i j)
theorem density7 (i : Fin 64) (j : Fin 4096) : @Eq EReal (V7 m ρ c main_v26 (ix2 i j)) ((scene m c).raw j ((scene m c).coarse j i) 3) :=
  (coarse_slice3_at m ρ c i j).trans (coarse_raw_at m ρ c 3 i j)

theorem coarse_colours8 (k : Fin 3) (j : Fin 4096) :
    @Eq EReal (W8 m ρ c (Proc.devRef .tc main_v27_0) (ix2 k j)) ((scene m c).colours j ((scene m c).coarse j) k) :=
  (congrFun ((W8_arr m ρ c 8).trans (coarse_out (V7 m ρ) c)) _).trans
    (coarseColours_eq (scene m c) _ _ _ _ _ _ _ (direction7 m ρ c) (near7 m ρ c) (far7 m ρ c) (t7 m ρ c) (red7 m ρ c) (green7 m ρ c)
      (blue7 m ρ c) (density7 m ρ c) k j)

theorem positions8 (i : Fin 192) (j : Fin 4096) :
    @Eq EReal (W8 m ρ c (Proc.devRef .tc main_v27_1) (ix2 i j)) ((scene m c).refined j i) :=
  (congrFun ((W8_arr m ρ c 9).trans (fine_out (V7 m ρ) c)) _).trans
    (finePositions_eq (scene m c) _ _ _ _ _ (direction7 m ρ c) (near7 m ρ c) (far7 m ρ c) (t7 m ρ c) (u7 m ρ c) (density7 m ρ c) i j)

theorem kept9 (r : Ref sig .tc) (h : r ∉ hostOps2_W) (h' : ∀ w : Fin cfg1.W, Pipeline.arrRef spec1 w = r → (cfg1.win w).isOut = false) :
    W9 m ρ c (Proc.devRef .tc r) = W7 m ρ c (Proc.devRef .tc r) :=
  (W9_of m ρ c r h).trans (W8_of m ρ c r h')

theorem kept (r : Ref sig .tc) (h1 : r ∉ hostOps1_W) (h2 : r ∉ hostOps2_W)
    (h0' : ∀ w : Fin cfg0.W, Pipeline.arrRef spec0 w = r → (cfg0.win w).isOut = false)
    (h1' : ∀ w : Fin cfg1.W, Pipeline.arrRef spec1 w = r → (cfg1.win w).isOut = false) :
    W9 m ρ c (Proc.devRef .tc r) = W5 m ρ c (Proc.devRef .tc r) :=
  (kept9 m ρ c r h2 h1').trans (kept7 m ρ c r h1 h0')

theorem kept11 (r : Ref sig .tc) (h : r ∉ hostOps3_W) (h' : ∀ w : Fin cfg2.W, Pipeline.arrRef spec2 w = r → (cfg2.win w).isOut = false) :
    W11 m ρ c (Proc.devRef .tc r) = W9 m ρ c (Proc.devRef .tc r) :=
  (W11_of m ρ c r h).trans (W10_of m ρ c r h')

theorem fine_raw_at (k : Fin 4) (i : Fin 192) (j : Fin 4096) :
    @Eq EReal (W10 m ρ c (Proc.devRef .tc main_v29) (ix2 k ⟨i.val * 4096 + j.val, by omega⟩)) ((scene m c).raw j ((scene m c).refined j i) k) :=
  (congrFun ((W10_arr m ρ c 7).trans (fineNet_out (V9 m ρ) c)) _).trans
    (fineNet_eq (scene m c) _ _ _ _ _ _ _ (scene m c).refined
      (fun a j => (congrFun (kept m ρ c main_v10 (by decide) (by decide) (by decide) (by decide)) _).trans (origin_at m ρ c a j))
      (fun a j => (congrFun (kept m ρ c main_v11 (by decide) (by decide) (by decide) (by decide)) _).trans (direction_at m ρ c a j))
      (fun i j => (stacked_positions_at m ρ c i j).trans (positions8 m ρ c i j))
      (fun h a => (congrFun (kept m ρ c main_v6 (by decide) (by decide) (by decide) (by decide)) _).trans (W₁_at m ρ c h a))
      (fun h => (congrFun (kept m ρ c main_v8 (by decide) (by decide) (by decide) (by decide)) _).trans (b₁_at m ρ c h))
      (fun k h => (congrFun (kept m ρ c main_v7 (by decide) (by decide) (by decide) (by decide)) _).trans (W₂_at m ρ c k h))
      (fun k => (congrFun (kept m ρ c main_v9 (by decide) (by decide) (by decide) (by decide)) _).trans (b₂_at m ρ c k)) k i j)

theorem direction11 (a : Fin 3) (j : Fin 4096) : @Eq EReal (V11 m ρ c main_v11 (ix2 a j)) ((scene m c).direction j a) :=
  (congrFun ((kept11 m ρ c main_v11 (by decide) (by decide)).trans (kept m ρ c main_v11 (by decide) (by decide) (by decide) (by decide))) _).trans
    (direction_at m ρ c a j)
theorem positions11 (i : Fin 192) (j : Fin 4096) : @Eq EReal (V11 m ρ c main_v27_1 (ix2 i j)) ((scene m c).refined j i) :=
  (congrFun ((kept11 m ρ c main_v27_1 (by decide) (by decide)).trans (W9_of m ρ c main_v27_1 (by decide))) _).trans (positions8 m ρ c i j)
theorem red11 (i : Fin 192) (j : Fin 4096) : @Eq EReal (V11 m ρ c main_v32 (ix2 i j)) ((scene m c).raw j ((scene m c).refined j i) 0) :=
  (fine_slice0_at m ρ c i j).trans (fine_raw_at m ρ c 0 i j)
theorem green11 (i : Fin 192) (j : Fin 4096) : @Eq EReal (V11 m ρ c main_v35 (ix2 i j)) ((scene m c).raw j ((scene m c).refined j i) 1) :=
  (fine_slice1_at m ρ c i j).trans (fine_raw_at m ρ c 1 i j)
theorem blue11 (i : Fin 192) (j : Fin 4096) : @Eq EReal (V11 m ρ c main_v38 (ix2 i j)) ((scene m c).raw j ((scene m c).refined j i) 2) :=
  (fine_slice2_at m ρ c i j).trans (fine_raw_at m ρ c 2 i j)
theorem density11 (i : Fin 192) (j : Fin 4096) : @Eq EReal (V11 m ρ c main_v41 (ix2 i j)) ((scene m c).raw j ((scene m c).refined j i) 3) :=
  (fine_slice3_at m ρ c i j).trans (fine_raw_at m ρ c 3 i j)

theorem weights11 (j : Fin 4096) : fineWeights (V11 m ρ c main_v11) (V11 m ρ c main_v27_1) (V11 m ρ c main_v41) j
    = (scene m c).weights j ((scene m c).refined j) :=
  fineWeights_eq (scene m c) _ _ _ (scene m c).refined (direction11 m ρ c) (positions11 m ρ c) (density11 m ρ c) j

/-- The coarse colours. -/
theorem first_result (j : Fin 4096) (k : Fin 3) :
    @Eq EReal (W13 m ρ c (Proc.devRef .tc main_v43) (ix2 j k)) ((scene m c).colours j ((scene m c).coarse j) k) :=
  (result0_at m ρ c j k).trans ((congrFun ((W12_of m ρ c main_v27_0 (by decide)).trans ((kept11 m ρ c main_v27_0 (by decide) (by decide)).trans
    (W9_of m ρ c main_v27_0 (by decide)))) _).trans (coarse_colours8 m ρ c k j))

/-- The colours. -/
theorem second_result (j : Fin 4096) (k : Fin 3) :
    @Eq EReal (W13 m ρ c (Proc.devRef .tc main_v44) (ix2 j k)) ((scene m c).colours j ((scene m c).refined j) k) :=
  (result1_at m ρ c j k).trans ((congrFun ((W12_arr m ρ c 6).trans (out6 (V11 m ρ) c)) _).trans
    (fineColours_eq (scene m c) _ _ _ _ _ _ (scene m c).refined (direction11 m ρ c) (positions11 m ρ c) (red11 m ρ c) (green11 m ρ c)
      (blue11 m ρ c) (density11 m ρ c) k j))

/-- The depth. -/
theorem third_result (j : Fin 4096) : @Eq EReal (W13 m ρ c (Proc.devRef .tc main_v45) (ix1 j))
    (∑ i, (scene m c).weights j ((scene m c).refined j) i * (scene m c).refined j i) :=
  (result2_at m ρ c j).trans (Eq.trans (b := (∑ i, @HMul.hMul EReal EReal EReal _ (fineWeights (V11 m ρ c main_v11) (V11 m ρ c main_v27_1) (V11 m ρ c main_v41) j i)
      (V11 m ρ c main_v27_1 (ix2 i j)) : EReal))
    (congrFun ((W12_arr m ρ c 7).trans (out7 (V11 m ρ) c)) (ix2 0 j))
    (Finset.sum_congr rfl fun i _ => congrArg₂ (fun x y : EReal => x * y) (congrFun (weights11 m ρ c j) i) (positions11 m ρ c i j)))

/-- The opacity. -/
theorem fourth_result (j : Fin 4096) : @Eq EReal (W13 m ρ c (Proc.devRef .tc main_v46) (ix1 j))
    (∑ i, (scene m c).weights j ((scene m c).refined j) i) :=
  (result3_at m ρ c j).trans (Eq.trans (b := (∑ i, fineWeights (V11 m ρ c main_v11) (V11 m ρ c main_v27_1) (V11 m ρ c main_v41) j i : EReal))
    (congrFun ((W12_arr m ρ c 8).trans (out8 (V11 m ρ) c)) (ix2 0 j))
    (Finset.sum_congr rfl fun i _ => congrFun (weights11 m ρ c j) i))

/-- The weights. -/
theorem fifth_result (j : Fin 4096) (i : Fin 192) :
    @Eq EReal (W13 m ρ c (Proc.devRef .tc main_v47) (ix2 j i)) ((scene m c).weights j ((scene m c).refined j) i) :=
  (result4_at m ρ c j i).trans ((congrFun ((W12_arr m ρ c 9).trans (out9 (V11 m ρ) c)) _).trans (congrFun (weights11 m ρ c j) i))

end Kern

end Cert.Nerf

end

end
-- ==== Proof.HostOps.lean ====
/- The reference's library operations read at an index: the running sum, the count of edges passed, the look-up along a
   ray, and the sort along a ray. -/
module

public import proofs.«01_k».proof.Proof.Net
public import proofs.«01_k».proof.Proof.Gen.ReferenceIdeal.Run
public import Idealize.ShloMosaic.Lib.SortFacts
public import Idealize.ShloMosaic.Lib.StableHlo.Predicate

@[expose] public section

set_option maxRecDepth 16384

noncomputable section

namespace Cert.Nerf.Ref

open Idealize.ShloMosaic Idealize.SL.Sem Idealize.ShloMosaic.StableHlo
open Cert.ReferenceIdeal Cert.ReferenceIdeal.Gen Cert.ReferenceIdeal.Value

/-! ## Counting -/

theorem fold_count {ι : Type} [DecidableEq ι] (P : ι → Prop) [DecidablePred P] (S : Finset ι) :
    Finset.fold IntOp.addi (0#32) (fun x => BitVec.setWidth 32 (BitVec.ofBool (decide (P x)))) S
      = BitVec.ofNat 32 (S.filter P).card := by
  induction S using Finset.induction_on with
  | empty => rfl
  | insert a S ha ih =>
    rw [Finset.fold_insert ha, ih, Finset.filter_insert]
    by_cases h : P a
    · rw [if_pos h, Finset.card_insert_of_notMem (fun e => ha (Finset.mem_filter.mp e).1)]
      simp only [h, decide_true]
      show BitVec.setWidth 32 (BitVec.ofBool true) + _ = _
      rw [show BitVec.setWidth 32 (BitVec.ofBool true) = BitVec.ofNat 32 1 from rfl, ← BitVec.ofNat_add, Nat.add_comm]
    · rw [if_neg h]
      simp only [h, decide_false]
      show BitVec.setWidth 32 (BitVec.ofBool false) + _ = _
      rw [show BitVec.setWidth 32 (BitVec.ofBool false) = 0#32 from rfl, BitVec.zero_add]

/-! ## Running sums -/

theorem foldl_add {ι : Type} (l : List ι) (f : ι → EReal) (a : EReal) :
    l.foldl (fun r n => r + f n) a = a + (l.map f).sum := by
  induction l generalizing a with
  | nil => simp
  | cons b l ih => rw [List.foldl_cons, ih, List.map_cons, List.sum_cons, add_assoc]

/-- The window position `n` of a window of one row and 64 columns. -/
theorem window_col (n : Fin (⟨2, ![1, 64]⟩ : Shape).numel) :
    ((⟨2, ![1, 64]⟩ : Shape).rowMajor.symm n 0).val = 0 ∧ ((⟨2, ![1, 64]⟩ : Shape).rowMajor.symm n 1).val = n.val := by
  have e := congrArg Fin.val ((⟨2, ![1, 64]⟩ : Shape).rowMajor.apply_symm_apply n)
  rw [Shape.rowMajor_val_two] at e
  have h0 : ((⟨2, ![1, 64]⟩ : Shape).rowMajor.symm n 0).val < 1 := ((⟨2, ![1, 64]⟩ : Shape).rowMajor.symm n 0).isLt
  have e' : ((⟨2, ![1, 64]⟩ : Shape).rowMajor.symm n 0).val * 64 + ((⟨2, ![1, 64]⟩ : Shape).rowMajor.symm n 1).val = n.val := e
  omega

theorem running_sum (x : FVec Ideal S4096x64 .f32) (init : S_.Idx → EReal) (h0 : ∀ i, init i = 0)
    (h : S4096x64.ReduceWindows ![1, 64] ![1, 1] ![0, 63] ![0, 0] S4096x64) (hu : 0 < S_.numel) (j : Fin 4096) (i : Fin 64) :
    Host.reduceWindowAdd (F := Ideal) (φ := .f32) ![1, 64] ![1, 1] ![0, 63] ![0, 0] x init h hu (ix2 j i)
      = upto (fun k => x (ix2 j k)) i := by
  show Host.reduceWindow (· + ·) ![1, 64] ![1, 1] ![0, 63] ![0, 0] x (fun _ : (⟨0, ![]⟩ : Shape).Idx => init (Shape.Idx.first hu)) h (by decide) (ix2 j i) = _
  unfold Host.reduceWindow
  simp only [h0]
  rw [foldl_add, zero_add]
  unfold upto
  rw [← Fin.sum_univ_def]
  have hn : (⟨2, ![1, 64]⟩ : Shape).numel = 64 := by decide
  have hi := i.isLt
  rw [← Equiv.sum_comp (finCongr hn.symm)]
  rw [← Equiv.sum_comp (Fin.revPerm (n := 64))]
  have key : ∀ n : Fin 64, (if hin : ∀ a : Fin 2, (![0, 63] : Fin 2 → ℕ) a ≤ (ix2 j i a).val * (![1, 1] : Fin 2 → ℕ) a + ((⟨2, ![1, 64]⟩ : Shape).rowMajor.symm (finCongr hn.symm n) a).val ∧
      (ix2 j i a).val * (![1, 1] : Fin 2 → ℕ) a + ((⟨2, ![1, 64]⟩ : Shape).rowMajor.symm (finCongr hn.symm n) a).val - (![0, 63] : Fin 2 → ℕ) a < S4096x64.size a
      then x (fun a => ⟨(ix2 j i a).val * (![1, 1] : Fin 2 → ℕ) a + ((⟨2, ![1, 64]⟩ : Shape).rowMajor.symm (finCongr hn.symm n) a).val - (![0, 63] : Fin 2 → ℕ) a, (hin a).2⟩) else 0)
      = if h : 63 ≤ i.val + n.val then x (ix2 j ⟨i.val + n.val - 63, by omega⟩) else 0 := by
    intro n
    obtain ⟨w0, w1⟩ := window_col (finCongr hn.symm n)
    have w1' : ((⟨2, ![1, 64]⟩ : Shape).rowMajor.symm (finCongr hn.symm n) 1).val = n.val := w1
    by_cases hh : 63 ≤ i.val + n.val
    · rw [dif_pos hh, dif_pos]
      · refine congrArg x (funext fun a => Fin.ext ?_)
        match a with
        | ⟨0, _⟩ => show j.val * 1 + ((⟨2, ![1, 64]⟩ : Shape).rowMajor.symm (finCongr hn.symm n) 0).val - 0 = j.val; rw [w0]; omega
        | ⟨1, _⟩ => show i.val * 1 + ((⟨2, ![1, 64]⟩ : Shape).rowMajor.symm (finCongr hn.symm n) 1).val - 63 = i.val + n.val - 63; rw [w1']; omega
      · intro a
        match a with
        | ⟨0, _⟩ =>
          show 0 ≤ j.val * 1 + ((⟨2, ![1, 64]⟩ : Shape).rowMajor.symm (finCongr hn.symm n) 0).val ∧ j.val * 1 + ((⟨2, ![1, 64]⟩ : Shape).rowMajor.symm (finCongr hn.symm n) 0).val - 0 < 4096
          rw [w0]; omega
        | ⟨1, _⟩ =>
          show 63 ≤ i.val * 1 + ((⟨2, ![1, 64]⟩ : Shape).rowMajor.symm (finCongr hn.symm n) 1).val ∧ i.val * 1 + ((⟨2, ![1, 64]⟩ : Shape).rowMajor.symm (finCongr hn.symm n) 1).val - 63 < 64
          rw [w1']; omega
    · rw [dif_neg hh, dif_neg]
      intro hin
      have := (hin 1).1
      have this' : 63 ≤ i.val * 1 + ((⟨2, ![1, 64]⟩ : Shape).rowMajor.symm (finCongr hn.symm n) 1).val := this
      rw [w1'] at this'
      omega
  refine Eq.trans (Finset.sum_congr rfl fun n _ => key (Fin.revPerm n)) ?_
  have e2 : ∀ n : Fin 64, (if h : 63 ≤ i.val + (Fin.revPerm n).val then x (ix2 j ⟨i.val + (Fin.revPerm n).val - 63, by have := (Fin.revPerm n).isLt; omega⟩) else 0)
      = if h : n.val ≤ i.val then x (ix2 j ⟨i.val - n.val, by omega⟩) else 0 := by
    intro n
    have hr : (Fin.revPerm n).val = 63 - n.val := by rw [Fin.revPerm_apply, Fin.val_rev]; omega
    by_cases hh : n.val ≤ i.val
    · rw [dif_pos hh, dif_pos (by omega)]
      congr 3
      omega
    · rw [dif_neg hh, dif_neg (by omega)]
  refine Eq.trans (Finset.sum_congr rfl fun n _ => e2 n) ?_
  rw [← Finset.sum_filter_add_sum_filter_not Finset.univ (fun n : Fin 64 => n.val ≤ i.val)]
  rw [← Finset.sum_filter_add_sum_filter_not Finset.univ (fun n : Fin 64 => n.val ≤ i.val) (fun n => if n.val ≤ i.val then _ else _)]
  congr 1
  · refine Finset.sum_bij' (fun n _ => ⟨i.val - n.val, by omega⟩) (fun n _ => ⟨i.val - n.val, by omega⟩) ?_ ?_ ?_ ?_ ?_
    · intro n hn; exact Finset.mem_filter.mpr ⟨Finset.mem_univ _, Nat.sub_le _ _⟩
    · intro n hn; exact Finset.mem_filter.mpr ⟨Finset.mem_univ _, Nat.sub_le _ _⟩
    · intro n hn; have := (Finset.mem_filter.mp hn).2; apply Fin.ext; simp only; omega
    · intro n hn; have := (Finset.mem_filter.mp hn).2; apply Fin.ext; simp only; omega
    · intro n hn
      have := (Finset.mem_filter.mp hn).2
      rw [dif_pos this, if_pos (Nat.sub_le _ _)]
  · rw [Finset.sum_eq_zero, Finset.sum_eq_zero]
    · intro n hn; have := (Finset.mem_filter.mp hn).2; rw [if_neg this]
    · intro n hn; have := (Finset.mem_filter.mp hn).2; rw [dif_neg this]

/-! ## Look-ups along a ray -/

theorem lookup65 (x : FVec Ideal S4096x65 .f32) (idx : IVec S4096x128x1 32) (j : Fin 4096) (r : Fin 128) {k : ℕ} (hk : k < 65)
    (h : idx (ix3 j r 0) = BitVec.ofNat 32 k) :
    Host.gather gather_S4096x65_S4096x128x1_S4096x128_n_1_0_0_1_2_11 x idx (ix2 j r) = x (ix2 j ⟨k, hk⟩) := by
  unfold Host.gather
  refine congrArg x (funext fun a => Fin.ext ?_)
  have hs : ∀ c, gather_S4096x65_S4096x128x1_S4096x128_n_1_0_0_1_2_11.siIdx (ix2 j r) c = ix3 j r 0 := by
    intro c
    funext b
    match b with
    | ⟨0, _⟩ => rfl
    | ⟨1, _⟩ => rfl
    | ⟨2, _⟩ => exact Subsingleton.elim (α := Fin 1) _ _
  match a with
  | ⟨0, _⟩ =>
    show GatherDims.start gather_S4096x65_S4096x128x1_S4096x128_n_1_0_0_1_2_11 (ix2 j r) idx 0 + GatherDims.batchCoord gather_S4096x65_S4096x128x1_S4096x128_n_1_0_0_1_2_11 (ix2 j r) 0 + 0 = j.val
    rw [GatherDims.start_batching _ _ _ _ (by decide), Nat.zero_add]
    rfl
  | ⟨1, _⟩ =>
    show GatherDims.start _ (ix2 j r) idx 1 + 0 + 0 = k
    unfold GatherDims.start
    rw [dif_pos (by decide), hs, h, Predicate.toInt_ofNat_small _ (by omega)]
    show min ((k : ℤ)).toNat (65 - 1) + 0 + 0 = k
    omega

theorem lookup64 (x : FVec Ideal S4096x64 .f32) (idx : IVec S4096x128x1 32) (j : Fin 4096) (r : Fin 128) {k : ℕ} (hk : k < 64)
    (h : idx (ix3 j r 0) = BitVec.ofNat 32 k) :
    Host.gather gather_S4096x64_S4096x128x1_S4096x128_n_1_0_0_1_2_11 x idx (ix2 j r) = x (ix2 j ⟨k, hk⟩) := by
  unfold Host.gather
  refine congrArg x (funext fun a => Fin.ext ?_)
  have hs : ∀ c, gather_S4096x64_S4096x128x1_S4096x128_n_1_0_0_1_2_11.siIdx (ix2 j r) c = ix3 j r 0 := by
    intro c
    funext b
    match b with
    | ⟨0, _⟩ => rfl
    | ⟨1, _⟩ => rfl
    | ⟨2, _⟩ => exact Subsingleton.elim (α := Fin 1) _ _
  match a with
  | ⟨0, _⟩ =>
    show GatherDims.start gather_S4096x64_S4096x128x1_S4096x128_n_1_0_0_1_2_11 (ix2 j r) idx 0 + GatherDims.batchCoord gather_S4096x64_S4096x128x1_S4096x128_n_1_0_0_1_2_11 (ix2 j r) 0 + 0 = j.val
    rw [GatherDims.start_batching _ _ _ _ (by decide), Nat.zero_add]
    rfl
  | ⟨1, _⟩ =>
    show GatherDims.start _ (ix2 j r) idx 1 + 0 + 0 = k
    unfold GatherDims.start
    rw [dif_pos (by decide), hs, h, Predicate.toInt_ofNat_small _ (by omega)]
    show min ((k : ℤ)).toNat (64 - 1) + 0 + 0 = k
    omega

/-! ## Sorting -/

theorem comparator_eq (l r : EReal) : comparator_f32_d1 (F := Ideal) l r = 1#1 ↔ l < r := by
  have hs : ∀ (b : Bool) (x y : EReal), Scalar.select (BitVec.ofBool b) x y = if b then x else y := by
    intro b x y; cases b <;> rfl
  have e : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have h1 : FloatOps.cmpf (F := Ideal) (φ := .f32) .une x x = BitVec.ofBool (decide (x ≠ x)) := rfl
    have h2 : FloatOps.cmpf (F := Ideal) (φ := .f32) .oeq x (FloatOps.ofBits (F := Ideal) .f32 0x00000000#32) = BitVec.ofBool (decide (x = FloatOps.ofBits (F := Ideal) .f32 0x00000000#32)) := rfl
    rw [h1, h2, hs, hs]
    split_ifs <;> simp_all
  unfold comparator_f32_d1
  show FloatOps.cmpfTotal .lt _ _ = 1#1 ↔ _
  rw [e l, e r]
  show BitVec.ofBool (decide (l < r)) = 1#1 ↔ _
  by_cases h : l < r <;> simp [h]

/-- The sorted row is the row in some order, and it rises. -/
theorem sorted_row (x : FVec Ideal S4096x192 .f32) (j : Fin 4096) : ∃ f : Fin 192 → Fin 192, Function.Injective f ∧
    (∀ i, Host.sort S4096x192 1 (comparator_f32_d1 (F := Ideal)) x (ix2 j i) = x (ix2 j (f i))) ∧
    Monotone fun i => x (ix2 j (f i)) := by
  have al : ∀ i k : Fin 192, (ix2 j i : S4096x192.Idx).along (1 : Fin 2) k = ix2 j k := by
    intro i k
    funext b
    match b with
    | ⟨0, _⟩ => rfl
    | ⟨1, _⟩ => rfl
  let R : Fin 192 → Fin 192 → Bool := fun k k' => comparator_f32_d1 (F := Ideal) (x (ix2 j k)) (x (ix2 j k')) == 1#1
  have hR : ∀ a b, R a b = decide (x (ix2 j a) < x (ix2 j b)) := by
    intro a b
    have := comparator_eq (x (ix2 j a)) (x (ix2 j b))
    by_cases h : x (ix2 j a) < x (ix2 j b)
    · simp [R, this.mpr h, h]
    · simp only [h, decide_false]
      exact beq_eq_false_iff_ne.mpr (fun e => h (this.mp e))
  refine ⟨sortedFrom R, sortedFrom_injective R, fun i => ?_, fun a b hab => ?_⟩
  · unfold Host.sort
    rw [dif_pos (show 1 < S4096x192.rank by decide)]
    show x ((ix2 j i : S4096x192.Idx).along (1 : Fin 2) (sortedFrom (fun k k' : Fin 192 => comparator_f32_d1 (F := Ideal) (x ((ix2 j i : S4096x192.Idx).along (1 : Fin 2) k)) (x ((ix2 j i : S4096x192.Idx).along (1 : Fin 2) k')) == 1#1) i)) = _
    simp only [al]
    exact congrArg x (al i _)
  · rcases lt_or_eq_of_le hab with h | h
    · have := sortedFrom_noInversion R R (fun a b h => by rw [hR] at h ⊢; simp only [decide_eq_true_eq, decide_eq_false_iff_not] at h ⊢; exact not_lt.mpr h.le)
        (fun _ _ h => h) (fun a b c h1 h2 => by
          rw [hR] at h1 h2 ⊢
          simp only [decide_eq_false_iff_not, not_lt] at h1 h2 ⊢
          exact le_trans h2 h1) a b h
      rw [hR] at this
      simpa using this
    · rw [h]

end Cert.Nerf.Ref

end

end
-- ==== Proof.Reference.lean ====
/- The reference's values read at an index: each of its results in terms of the scene. -/
module

public import proofs.«01_k».proof.Proof.Scene
public import proofs.«01_k».proof.Proof.HostOps
public import Idealize.ShloMosaic.Lib.Tactic.CleanTypes

@[expose] public section

set_option maxRecDepth 16384

noncomputable section

namespace Cert.Nerf.Ref

open Idealize.ShloMosaic Idealize.SL.Sem Idealize.ShloMosaic.StableHlo Idealize.ShloMosaic.TcCoe
open Cert.ReferenceIdeal Cert.ReferenceIdeal.Gen Cert.ReferenceIdeal.Value

variable (V : Valuation τ sig (Elt Ideal))

/-- The scene that the arguments hold. -/
def scene : Scene where
  origin j a := V (Proc.devRef .tc main_arg0) (ix2 j a)
  direction j a := V (Proc.devRef .tc main_arg1) (ix2 j a)
  near j := V (Proc.devRef .tc main_arg2) (ix2 j 0)
  far j := V (Proc.devRef .tc main_arg2) (ix2 j 1)
  W₁ a h := V (Proc.devRef .tc main_arg3) (ix2 a h)
  b₁ h := V (Proc.devRef .tc main_arg4) (ix1 h)
  W₂ h c := V (Proc.devRef .tc main_arg5) (ix2 h c)
  b₂ c := V (Proc.devRef .tc main_arg6) (ix1 c)

theorem grid_at (i : Fin 64) : @Eq EReal (res_main_v4 V (ix1 i)) (grid 64 i) := by
  refine Eq.trans ?_ (grid_eq 64 (by omega) i _ _ _ _ zero_scalar one_scalar (small_number (n := i.val) (by omega)) sixty_three)
  unfold res_main_v4 res_main_call0_v0 res_main_call0_v1 res_main_call0_v6
  clean_types
  pointwise []

theorem draw_at (j : Fin 4096) (i : Fin 128) : @Eq EReal (res_main_v113 V (ix2 j i)) (grid 128 i) := by
  refine Eq.trans ?_ (grid_eq 128 (by omega) i _ _ _ _ zero_scalar one_scalar (small_number (n := i.val) (by omega)) hundred_twenty_seven)
  unfold res_main_v113 res_main_call4_v0 res_main_call4_v1 res_main_call4_v6
  clean_types
  pointwise []

theorem coarse_at (j : Fin 4096) (i : Fin 64) : @Eq EReal (res_main_v17 V (ix2 j i)) ((scene V).coarse j i) := by
  unfold Scene.coarse Body.depths
  rw [← grid_at V]
  unfold res_main_v17
  clean_types
  pointwise []
  rfl

theorem raw_at (j : Fin 4096) (i : Fin 64) (k : Fin 4) :
    @Eq EReal (res_main_v35 V (ix3 j i k)) ((scene V).raw j ((scene V).coarse j i) k) := by
  rw [← coarse_at]
  unfold res_main_v35
  clean_types
  pointwise []
  rfl

theorem alpha_at (j : Fin 4096) (i : Fin 64) : @Eq EReal (res_main_v60 V (ix2 j i))
    (1 - atten (fun i => (scene V).raw j ((scene V).coarse j i) 3) ((scene V).coarse j) ((scene V).norm j) i) := by
  unfold res_main_v60
  clean_types
  pointwise []
  rw [raw_at]
  unfold atten gap Scene.norm
  by_cases h : i.val < 63
  · rw [dif_pos h, dif_pos (show i.val + 1 < 64 by omega), coarse_at, coarse_at]
    simp only [Nat.add_comm 1]
    rfl
  · rw [dif_neg h, dif_neg (show ¬ i.val + 1 < 64 by omega)]
    rfl

/-- The comparison of two positions as words. -/
theorem slt_small {a b : ℕ} (ha : a < 2 ^ 31) (hb : b < 2 ^ 31) (x y : EReal) :
    Scalar.select (IntOp.cmpi .slt (BitVec.ofNat 32 a) (BitVec.ofNat 32 b)) x y = if a < b then x else y := by
  have e : IntOp.cmpi .slt (BitVec.ofNat 32 a) (BitVec.ofNat 32 b) = BitVec.ofBool (decide (a < b)) := by
    show BitVec.ofBool (BitVec.slt _ _) = _
    unfold BitVec.slt
    rw [Predicate.toInt_ofNat_small a (by omega), Predicate.toInt_ofNat_small b (by omega)]
    simp only [Nat.cast_lt]
  rw [e]
  by_cases h : a < b
  · simp only [h, decide_true, if_true]; rfl
  · simp only [h, decide_false, if_false]; rfl

theorem masked_at (j : Fin 4096) (i k : Fin 64) : @Eq EReal (res_main_v74 V (ix3 j i k))
    (if k < i then atten (fun i => (scene V).raw j ((scene V).coarse j i) 3) ((scene V).coarse j) ((scene V).norm j) k + tiny else 1) := by
  unfold res_main_v74
  clean_types
  pointwise []
  rw [slt_small (by omega) (by omega), alpha_at, one_sub_one_sub (atten_nonneg _ _ _ _), one_scalar]
  rfl

/-- A product halved: each factor of the half is a product of two. -/
theorem prod_halved {n m : ℕ} (e : m = n + n) (f : Fin m → EReal) (g : Fin n → EReal)
    (h : ∀ k, g k = f ⟨k.val, by omega⟩ * f ⟨n + k.val, by omega⟩) : ∏ k, f k = ∏ k, g k := by
  rw [prod_halves e]
  exact Finset.prod_congr rfl fun k _ => (h k).symm

theorem weight_at (j : Fin 4096) (i : Fin 64) :
    @Eq EReal (res_main_v94 V (ix2 j i)) ((scene V).weights j ((scene V).coarse j) i) := by
  have h94 : @Eq EReal (res_main_v94 V (ix2 j i)) (@HMul.hMul EReal EReal EReal _ (res_main_v60 V (ix2 j i))
      (@HMul.hMul EReal EReal EReal _ (res_main_v89 V (ix3 j i 0)) (res_main_v89 V (ix3 j i 1)))) := by
    unfold res_main_v94; clean_types; pointwise []
  rw [h94, alpha_at]
  unfold Scene.weights weight
  refine congrArg _ (Eq.symm ?_)
  refine (Finset.prod_congr rfl fun k _ => (masked_at V j i k).symm).trans ?_
  refine (prod_halved (n := 32) rfl _ (fun k => res_main_v77 V (ix3 j i k)) fun k => ?_).trans ?_
  · unfold res_main_v77; clean_types; pointwise []
  refine (prod_halved (n := 16) rfl _ (fun k => res_main_v80 V (ix3 j i k)) fun k => ?_).trans ?_
  · unfold res_main_v80; clean_types; pointwise []
  refine (prod_halved (n := 8) rfl _ (fun k => res_main_v83 V (ix3 j i k)) fun k => ?_).trans ?_
  · unfold res_main_v83; clean_types; pointwise []
  refine (prod_halved (n := 4) rfl _ (fun k => res_main_v86 V (ix3 j i k)) fun k => ?_).trans ?_
  · unfold res_main_v86; clean_types; pointwise []
  refine (prod_halved (n := 2) rfl _ (fun k => res_main_v89 V (ix3 j i k)) fun k => ?_).trans ?_
  · unfold res_main_v89; clean_types; pointwise []
  exact Fin.prod_univ_two _

theorem coarse_colours_at (j : Fin 4096) (k : Fin 3) :
    @Eq EReal (val5 V (Proc.devRef .tc main_v98) (ix2 j k)) ((scene V).colours j ((scene V).coarse j) k) := by
  rw [val5_main_v98]
  clean_types
  pointwise []
  unfold Scene.colours colour squash
  refine Finset.sum_congr rfl fun i _ => ?_
  rw [weight_at, raw_at]

end Cert.Nerf.Ref

end

end
-- ==== Proof.Drawn.lean ====
/- The reference's positions: those drawn from the coarse weights, and their merge with the coarse ones. -/
module

public import proofs.«01_k».proof.Proof.Reference

@[expose] public section

set_option maxRecDepth 16384

noncomputable section

namespace Cert.Nerf.Ref

open Idealize.ShloMosaic Idealize.SL.Sem Idealize.ShloMosaic.StableHlo Idealize.ShloMosaic.TcCoe
open Cert.ReferenceIdeal Cert.ReferenceIdeal.Gen Cert.ReferenceIdeal.Value

variable (V : Valuation τ sig (Elt Ideal))

theorem raised_at (j : Fin 4096) (i : Fin 64) :
    @Eq EReal (res_main_v103 V (ix2 j i)) ((scene V).weights j ((scene V).coarse j) i + eps) := by
  rw [← weight_at]
  unfold res_main_v103
  clean_types
  pointwise []
  rfl

theorem upto_share_at (j : Fin 4096) (i : Fin 64) :
    @Eq EReal (res_main_v108 V (ix2 j i)) (upto ((scene V).shares j) i) := by
  unfold res_main_v108
  clean_types
  refine (running_sum _ _ (fun _ => Ideal.ofBits_zero_f32) _ _ _ _).trans ?_
  refine congrArg (fun x => upto x i) (funext fun k => ?_)
  pointwise []
  unfold Scene.shares share
  rw [raised_at]
  refine congrArg _ (Finset.sum_congr rfl fun k _ => raised_at V j k)

theorem cdf_at (j : Fin 4096) (n : Fin 65) :
    @Eq EReal (res_main_v111 V (ix2 j n)) (cdf ((scene V).shares j) n.val) := by
  unfold res_main_v111
  clean_types
  pointwise []
  by_cases h : n.val < 1
  · rw [dif_pos h]
    have e : n.val = 0 := by omega
    rw [e]
    exact (Finset.sum_eq_zero fun j _ => if_neg (by omega)).symm
  · rw [dif_neg h, upto_share_at, upto_eq_cdf]
    exact congrArg _ (show n.val - 1 + 1 = n.val by omega)

/-- How many edges the draw `r` of ray `j` has passed. -/
def count (j : Fin 4096) (r : Fin 128) : ℕ := passed ((scene V).shares j) (grid 128 r)

theorem count_le (j : Fin 4096) (r : Fin 128) : count V j r ≤ 65 := by
  unfold count passed
  exact (Finset.card_filter_le _ _).trans (by simp)

theorem fold_below (a : Fin 65 → EReal) (b : EReal) :
    Finset.fold IntOp.addi 0#32 (fun x => BitVec.setWidth 32 (BitVec.ofBool (decide (a x ≤ b)))) Finset.univ
      = BitVec.ofNat 32 (Finset.univ.filter fun x => a x ≤ b).card := fold_count _ _

theorem count_at (j : Fin 4096) (r : Fin 128) :
    @Eq (BitVec 32) (res_main_v120 V (ix2 j r)) (BitVec.ofNat 32 (count V j r)) := by
  unfold res_main_v120
  clean_types
  pointwise []
  refine (fold_below (fun x => res_main_v111 V (ix2 j x)) (res_main_v113 V (ix2 j r))).trans ?_
  unfold count passed
  simp only [cdf_at, draw_at]

theorem lower_word : ∀ c : Fin 66, IntOp.maxsi (IntOp.subi (BitVec.ofNat 32 c.val) 1#32) 0#32 = BitVec.ofNat 32 (c.val - 1) := by decide +kernel
theorem upper_word : ∀ c : Fin 66, IntOp.minsi (BitVec.ofNat 32 c.val) 64#32 = BitVec.ofNat 32 (min c.val 64) := by decide +kernel
theorem lower_edge_word : ∀ c : Fin 66, IntOp.minsi (BitVec.ofNat 32 (c.val - 1)) 63#32 = BitVec.ofNat 32 (min (c.val - 1) 63) := by decide +kernel
theorem upper_edge_word : ∀ c : Fin 66, IntOp.minsi (BitVec.ofNat 32 (min c.val 64)) 63#32 = BitVec.ofNat 32 (min (min c.val 64) 63) := by decide +kernel

theorem lower_at (j : Fin 4096) (r : Fin 128) :
    @Eq (BitVec 32) (res_main_v124 V (ix2 j r)) (BitVec.ofNat 32 (count V j r - 1)) := by
  unfold res_main_v124
  clean_types
  pointwise []
  rw [count_at]
  exact lower_word ⟨count V j r, by have := count_le V j r; omega⟩

theorem upper_at (j : Fin 4096) (r : Fin 128) :
    @Eq (BitVec 32) (res_main_v126 V (ix2 j r)) (BitVec.ofNat 32 (min (count V j r) 64)) := by
  unfold res_main_v126
  clean_types
  pointwise []
  rw [count_at]
  exact upper_word ⟨count V j r, by have := count_le V j r; omega⟩

theorem lower_edge_at (j : Fin 4096) (r : Fin 128) :
    @Eq (BitVec 32) (res_main_v130 V (ix2 j r)) (BitVec.ofNat 32 (min (count V j r - 1) 63)) := by
  unfold res_main_v130
  clean_types
  pointwise []
  rw [lower_at]
  exact lower_edge_word ⟨count V j r, by have := count_le V j r; omega⟩

theorem upper_edge_at (j : Fin 4096) (r : Fin 128) :
    @Eq (BitVec 32) (res_main_v133 V (ix2 j r)) (BitVec.ofNat 32 (min (min (count V j r) 64) 63)) := by
  unfold res_main_v133
  clean_types
  pointwise []
  rw [upper_at]
  exact upper_edge_word ⟨count V j r, by have := count_le V j r; omega⟩

theorem edge_eq (z : Fin 64 → EReal) (n : ℕ) (h : min n 63 < 64) : edge z n = z ⟨min n 63, h⟩ := rfl

theorem not_below_zero : ∀ n : Fin 100, IntOp.cmpi .slt (BitVec.ofNat 32 n.val) 0#32 = 0#1 := by decide +kernel

/-- A small number is not wrapped. -/
theorem wrapped_small {n : ℕ} (h : n < 100) (a : BitVec 32) :
    Scalar.select (IntOp.cmpi .slt (BitVec.ofNat 32 n) 0#32) a (BitVec.ofNat 32 n) = BitVec.ofNat 32 n := by
  rw [not_below_zero ⟨n, h⟩]; rfl

/-- The index of a lookup: a negative one would be counted from the end. -/
theorem index_at (x : IVec S4096x128 32) (c : BitVec 32) (j : Fin 4096) (r : Fin 128) :
    shapeCast S4096x128x1 (select (cmpi .slt x (broadcastInDim S4096x128 ![] bcast_S_S4096x128 (constantI S_ 32 0#32)))
      (addi x (broadcastInDim S4096x128 ![] bcast_S_S4096x128 (constantI S_ 32 c))) x) shapeCasts_S4096x128_S4096x128x1 (ix3 j r 0)
      = Scalar.select (IntOp.cmpi .slt (x (ix2 j r)) 0#32) (IntOp.addi (x (ix2 j r)) c) (x (ix2 j r)) := by
  pointwise []

theorem lower_cdf_at (j : Fin 4096) (r : Fin 128) :
    @Eq EReal (res_main_v127 V (ix2 j r)) (cdf ((scene V).shares j) (count V j r - 1)) := by
  have hc := count_le V j r
  unfold res_main_v127
  clean_types
  rw [lookup65 _ _ j r (k := count V j r - 1) (by omega) ?_]
  · exact cdf_at V j _
  · exact (index_at _ _ j r).trans (by rw [lower_at]; exact wrapped_small (by omega) _)

theorem difference_at (a b : FVec Ideal S4096x128 .f32) (j : Fin 4096) (r : Fin 128) :
    subf a b (ix2 j r) = a (ix2 j r) - b (ix2 j r) := rfl

theorem width_at (j : Fin 4096) (r : Fin 128) : @Eq EReal (res_main_v135 V (ix2 j r))
    (cdf ((scene V).shares j) (min (count V j r) 64) - cdf ((scene V).shares j) (count V j r - 1)) := by
  have hc := count_le V j r
  have hl : Host.gather gather_S4096x65_S4096x128x1_S4096x128_n_1_0_0_1_2_11 (res_main_v111 V) (shapeCast _ (select (cmpi .slt (res_main_v126 V) (broadcastInDim S4096x128 ![] bcast_S_S4096x128 (constantI S_ 32 0#32))) (addi (res_main_v126 V) (broadcastInDim S4096x128 ![] bcast_S_S4096x128 (constantI S_ 32 65#32))) (res_main_v126 V)) shapeCasts_S4096x128_S4096x128x1) (ix2 j r)
      = cdf ((scene V).shares j) (min (count V j r) 64) := by
    refine (lookup65 _ _ j r (k := min (count V j r) 64) (by omega) ?_).trans (cdf_at V j _)
    exact (index_at _ _ j r).trans (by rw [upper_at]; exact wrapped_small (by omega) _)
  unfold res_main_v135
  exact (difference_at _ _ j r).trans (congrArg₂ (fun a b : EReal => a - b) hl (lower_cdf_at V j r))

theorem lower_bound_at (j : Fin 4096) (r : Fin 128) :
    @Eq EReal (res_main_v131 V (ix2 j r)) (edge ((scene V).coarse j) (count V j r - 1)) := by
  have hc := count_le V j r
  unfold res_main_v131
  clean_types
  refine (lookup64 _ _ j r (k := min (count V j r - 1) 63) (by omega) ?_).trans ((coarse_at V j _).trans (edge_eq _ _ _).symm)
  · exact (index_at _ _ j r).trans (by rw [lower_edge_at]; exact wrapped_small (by omega) _)

theorem upper_bound_at (j : Fin 4096) (r : Fin 128) :
    Host.gather gather_S4096x64_S4096x128x1_S4096x128_n_1_0_0_1_2_11 (res_main_v17 V) (shapeCast _ (select (cmpi .slt (res_main_v133 V) (broadcastInDim S4096x128 ![] bcast_S_S4096x128 (constantI S_ 32 0#32))) (addi (res_main_v133 V) (broadcastInDim S4096x128 ![] bcast_S_S4096x128 (constantI S_ 32 64#32))) (res_main_v133 V)) shapeCasts_S4096x128_S4096x128x1) (ix2 j r)
      = edge ((scene V).coarse j) (min (count V j r) 64) := by
  have hc := count_le V j r
  refine (lookup64 _ _ j r (k := min (min (count V j r) 64) 63) (by omega) ?_).trans ((coarse_at V j _).trans (edge_eq _ _ _).symm)
  · exact (index_at _ _ j r).trans (by rw [upper_edge_at]; exact wrapped_small (by omega) _)

/-- The positions drawn, as the reference writes them. -/
def drawnRow : Vec Ideal S4096x128 .f32 :=
  addf (res_main_v131 V) (mulf (Host.divf (subf (res_main_v113 V) (res_main_v127 V)) (select (cmpf .olt (res_main_v135 V) (broadcastInDim S4096x128 ![] bcast_S_S4096x128 (constant S_ .f32 0x3727C5AC#32))) (broadcastInDim S4096x128 ![] bcast_S_S4096x128 (constant S_ .f32 0x3F800000#32)) (res_main_v135 V))) (subf (Host.gather gather_S4096x64_S4096x128x1_S4096x128_n_1_0_0_1_2_11 (res_main_v17 V) (shapeCast _ (select (cmpi .slt (res_main_v133 V) (broadcastInDim S4096x128 ![] bcast_S_S4096x128 (constantI S_ 32 0#32))) (addi (res_main_v133 V) (broadcastInDim S4096x128 ![] bcast_S_S4096x128 (constantI S_ 32 64#32))) (res_main_v133 V)) shapeCasts_S4096x128_S4096x128x1)) (res_main_v131 V)))

/-- The placing of the draws `u` in bins with lower masses `g`, widths `w`, and bounds `a` and `b`, at an index. -/
theorem placed_at (a u g w b : FVec Ideal S4096x128 .f32) (j : Fin 4096) (r : Fin 128) :
    addf a (mulf (Host.divf (subf u g) (select (cmpf .olt w (broadcastInDim S4096x128 ![] bcast_S_S4096x128 (constant S_ .f32 0x3727C5AC#32))) (broadcastInDim S4096x128 ![] bcast_S_S4096x128 (constant S_ .f32 0x3F800000#32)) w)) (subf b a)) (ix2 j r)
      = a (ix2 j r) + Ideal.div (u (ix2 j r) - g (ix2 j r)) (if w (ix2 j r) < eps then 1 else w (ix2 j r)) * (b (ix2 j r) - a (ix2 j r)) := by
  pointwise []
  unfold eps
  congr 3

theorem drawnRow_at (j : Fin 4096) (r : Fin 128) : drawnRow V (ix2 j r) = (scene V).drawn j r := by
  unfold drawnRow
  refine (placed_at _ _ _ _ _ j r).trans ?_
  rw [upper_bound_at, lower_bound_at, draw_at, lower_cdf_at, width_at]
  rfl

/-- The reference's row of positions: the coarse ones, then those drawn. -/
theorem positions_at (j : Fin 4096) : ∃ f : Fin 192 → Fin 192, Function.Injective f ∧
    (∀ i, @Eq EReal (res_main_v146 V (ix2 j i)) (row ((scene V).coarse j) ((scene V).drawn j) (f i))) ∧
    Monotone fun i => row ((scene V).coarse j) ((scene V).drawn j) (f i) := by
  have hv : res_main_v146 V = Host.sort S4096x192 1 (comparator_f32_d1 (F := Ideal)) (concatenate S4096x192 1 [⟨S4096x64, res_main_v17 V⟩, ⟨S4096x128, drawnRow V⟩] concatenates_S4096x64_S4096x128_S4096x192_d1) := by
    unfold res_main_v146 drawnRow
    rfl
  rw [hv]
  have hx : ∀ i : Fin 192, @Eq EReal (concatenate S4096x192 1 [⟨S4096x64, res_main_v17 V⟩, ⟨S4096x128, drawnRow V⟩] concatenates_S4096x64_S4096x128_S4096x192_d1 (ix2 j i)) (row ((scene V).coarse j) ((scene V).drawn j) i) := by
    intro i
    clean_types
    pointwise []
    unfold row
    by_cases h : i.val < 64
    · rw [dif_pos h, dif_pos h]
      exact coarse_at V j _
    · rw [dif_neg h, dif_neg h]
      exact drawnRow_at V j _
  obtain ⟨f, hf, he, hm⟩ := sorted_row (concatenate S4096x192 1 [⟨S4096x64, res_main_v17 V⟩, ⟨S4096x128, drawnRow V⟩] concatenates_S4096x64_S4096x128_S4096x192_d1) j
  refine ⟨f, hf, fun i => (he i).trans (hx _), fun a b h => ?_⟩
  have := hm h
  simp only [hx] at this
  exact this

end Cert.Nerf.Ref

end

end
-- ==== Proof.Refined.lean ====
/- The reference's fine pass read at an index: its weights, colours, depths and opacities at the merged positions. -/
module

public import proofs.«01_k».proof.Proof.Drawn

@[expose] public section

set_option maxRecDepth 16384

noncomputable section

namespace Cert.Nerf.Ref

open Idealize.ShloMosaic Idealize.SL.Sem Idealize.ShloMosaic.StableHlo Idealize.ShloMosaic.TcCoe
open Cert.ReferenceIdeal Cert.ReferenceIdeal.Gen Cert.ReferenceIdeal.Value

variable (V : Valuation τ sig (Elt Ideal))

/-- The reference's merged positions of ray `j`. -/
def fine (j : Fin 4096) (i : Fin 192) : EReal := res_main_v146 V (ix2 j i)

theorem fine_at (j : Fin 4096) (i : Fin 192) : @Eq EReal (res_main_v146 V (ix2 j i)) (fine V j i) := rfl

theorem fine_raw_at (j : Fin 4096) (i : Fin 192) (k : Fin 4) :
    @Eq EReal (res_main_v164 V (ix3 j i k)) ((scene V).raw j (fine V j i) k) := by
  rw [← fine_at]
  unfold res_main_v164
  clean_types
  pointwise []
  rfl

theorem fine_alpha_at (j : Fin 4096) (i : Fin 192) : @Eq EReal (res_main_v189 V (ix2 j i))
    (1 - atten (fun i => (scene V).raw j (fine V j i) 3) (fine V j) ((scene V).norm j) i) := by
  unfold res_main_v189
  clean_types
  pointwise []
  rw [fine_raw_at]
  unfold atten gap Scene.norm
  by_cases h : i.val < 191
  · rw [dif_pos h, dif_pos (show i.val + 1 < 192 by omega), fine_at, fine_at]
    simp only [Nat.add_comm 1]
    rfl
  · rw [dif_neg h, dif_neg (show ¬ i.val + 1 < 192 by omega)]
    rfl

theorem fine_masked_at (j : Fin 4096) (i k : Fin 192) : @Eq EReal (res_main_v203 V (ix3 j i k))
    (if k < i then atten (fun i => (scene V).raw j (fine V j i) 3) (fine V j) ((scene V).norm j) k + tiny else 1) := by
  unfold res_main_v203
  clean_types
  pointwise []
  rw [slt_small (by omega) (by omega), fine_alpha_at, one_sub_one_sub (atten_nonneg _ _ _ _), one_scalar]
  rfl

theorem fine_weight_at (j : Fin 4096) (i : Fin 192) :
    @Eq EReal (res_main_v230 V (ix2 j i)) ((scene V).weights j (fine V j) i) := by
  have hw : @Eq EReal (res_main_v230 V (ix2 j i)) (@HMul.hMul EReal EReal EReal _ (res_main_v189 V (ix2 j i))
      (@HMul.hMul EReal EReal EReal _ (@HMul.hMul EReal EReal EReal _ (res_main_v221 V (ix3 j i 0)) (res_main_v221 V (ix3 j i 1))) (res_main_v221 V (ix3 j i 2)))) := by
    unfold res_main_v230; clean_types; pointwise []
  rw [hw, fine_alpha_at]
  unfold Scene.weights weight
  refine congrArg _ (Eq.symm ?_)
  refine (Finset.prod_congr rfl fun k _ => (fine_masked_at V j i k).symm).trans ?_
  refine (prod_halved (n := 96) rfl _ (fun k => res_main_v206 V (ix3 j i k)) fun k => ?_).trans ?_
  · unfold res_main_v206; clean_types; pointwise []
  refine (prod_halved (n := 48) rfl _ (fun k => res_main_v209 V (ix3 j i k)) fun k => ?_).trans ?_
  · unfold res_main_v209; clean_types; pointwise []
  refine (prod_halved (n := 24) rfl _ (fun k => res_main_v212 V (ix3 j i k)) fun k => ?_).trans ?_
  · unfold res_main_v212; clean_types; pointwise []
  refine (prod_halved (n := 12) rfl _ (fun k => res_main_v215 V (ix3 j i k)) fun k => ?_).trans ?_
  · unfold res_main_v215; clean_types; pointwise []
  refine (prod_halved (n := 6) rfl _ (fun k => res_main_v218 V (ix3 j i k)) fun k => ?_).trans ?_
  · unfold res_main_v218; clean_types; pointwise []
  refine (prod_halved (n := 3) rfl _ (fun k => res_main_v221 V (ix3 j i k)) fun k => ?_).trans ?_
  · unfold res_main_v221; clean_types; pointwise []
  exact Fin.prod_univ_three _

theorem fine_colours_at (j : Fin 4096) (k : Fin 3) :
    @Eq EReal (val5 V (Proc.devRef .tc main_v234) (ix2 j k)) ((scene V).colours j (fine V j) k) := by
  rw [val5_main_v234]
  clean_types
  pointwise []
  unfold Scene.colours colour squash
  refine Finset.sum_congr rfl fun i _ => ?_
  rw [fine_weight_at, fine_raw_at]

theorem fine_depth_at (j : Fin 4096) :
    @Eq EReal (val5 V (Proc.devRef .tc main_v236) (ix1 j)) (∑ i, (scene V).weights j (fine V j) i * fine V j i) := by
  rw [val5_main_v236]
  clean_types
  pointwise []
  refine Finset.sum_congr rfl fun i _ => ?_
  rw [fine_weight_at, fine_at]

theorem fine_opacity_at (j : Fin 4096) :
    @Eq EReal (val5 V (Proc.devRef .tc main_v237) (ix1 j)) (∑ i, (scene V).weights j (fine V j) i) := by
  rw [val5_main_v237]
  clean_types
  pointwise []
  exact Finset.sum_congr rfl fun i _ => fine_weight_at V j i

end Cert.Nerf.Ref

end

end
-- ==== Proof.Ordered.lean ====
/- With ordered, finite bounds, the kernel's fine positions are the reference's. -/
module

public import proofs.«01_k».proof.Proof.Chain
public import proofs.«01_k».proof.Proof.Refined

@[expose] public section

set_option maxRecDepth 16384

noncomputable section

namespace Cert.Nerf

open Idealize.ShloMosaic

/-- The bounds of every ray are finite and in order. -/
def Scene.Ordered (S : Scene) : Prop := ∀ j, S.near j ≤ S.far j ∧ ⊥ < S.near j ∧ S.far j < ⊤

namespace Scene

variable (S : Scene)

theorem grid_coe (n : ℕ) (i : Fin n) : grid n i = ((gridR n i : ℝ) : EReal) := rfl

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

theorem norm_nonneg (j : Fin 4096) : 0 ≤ S.norm j := by
  unfold norm
  have h : 0 ≤ ∑ x, S.direction j x * S.direction j x := Finset.sum_nonneg fun x _ => square_nonneg _
  generalize (∑ x, S.direction j x * S.direction j x) = q at h
  induction q using EReal.rec with
  | bot => exact absurd h (not_le.mpr EReal.bot_lt_zero)
  | top => exact le_top
  | coe r =>
    have hr : 0 ≤ r := by exact_mod_cast h
    show (0 : EReal) ≤ if r < 0 then ⊥ else (Real.sqrt r : EReal)
    rw [if_neg (not_lt.mpr hr)]
    exact_mod_cast Real.sqrt_nonneg r

variable {S}

theorem coarse_real (h : S.Ordered) (j : Fin 4096) : ∃ z : Fin 64 → ℝ, Monotone z ∧ S.coarse j = fun i => (z i : EReal) := by
  obtain ⟨hle, hn, hf⟩ := h j
  obtain ⟨a, ha⟩ : ∃ a : ℝ, (a : EReal) = S.near j := ⟨(S.near j).toReal, EReal.coe_toReal (ne_of_lt (lt_of_le_of_lt hle hf)) (ne_of_gt hn)⟩
  obtain ⟨b, hb⟩ : ∃ b : ℝ, (b : EReal) = S.far j := ⟨(S.far j).toReal, EReal.coe_toReal (ne_of_lt hf) (ne_of_gt (lt_of_lt_of_le hn hle))⟩
  have hab : a ≤ b := by rw [← ha, ← hb] at hle; exact_mod_cast hle
  refine ⟨fun i => a * (1 - gridR 64 i) + b * gridR 64 i, fun i k hik => ?_, funext fun i => ?_⟩
  · have := mul_le_mul_of_nonneg_left (gridR_mono 64 hik) (sub_nonneg.mpr hab)
    show a * (1 - gridR 64 i) + b * gridR 64 i ≤ a * (1 - gridR 64 k) + b * gridR 64 k
    nlinarith
  · unfold coarse Body.depths
    rw [← ha, ← hb, grid_coe]
    simp only [EReal.coe_add, EReal.coe_mul, EReal.coe_sub, EReal.coe_one]

theorem shares_real (h : S.Ordered) (j : Fin 4096) : ∃ p : Fin 64 → ℝ, (∀ i, 0 ≤ p i) ∧ S.shares j = fun i => (p i : EReal) := by
  obtain ⟨z, hz, e⟩ := coarse_real h j
  have hw : ∀ i, ∃ r : ℝ, 0 ≤ r ∧ S.weights j (S.coarse j) i = r := fun i => by
    unfold weights
    rw [e]
    exact weight_real _ hz (S.norm_nonneg j) i
  choose p hp0 hp using fun i => share_real hw i
  exact ⟨p, hp0, funext hp⟩

theorem drawn_real (h : S.Ordered) (j : Fin 4096) : Monotone (S.drawn j)
    ∧ ∀ r, telescoped (S.coarse j) (S.shares j) (grid 128 r) = S.drawn j r := by
  obtain ⟨z, hz, e⟩ := coarse_real h j
  obtain ⟨p, hp, e'⟩ := shares_real h j
  constructor
  · intro r q hrq
    unfold drawn
    rw [e, e', grid_coe, grid_coe, sample_coe hp (gridR_nonneg 128 r), sample_coe hp (gridR_nonneg 128 q)]
    exact EReal.coe_le_coe_iff.mpr (sampleR_mono hz hp (gridR_nonneg 128 r) (gridR_mono 128 hrq))
  · intro r
    unfold drawn
    rw [e, e', grid_coe]
    exact telescoped_eq hp (gridR_nonneg 128 r) z

theorem refined_eq (h : S.Ordered) (j : Fin 4096) (f : Fin 192 → Fin 192) (hf : Function.Injective f)
    (hm : Monotone fun i => row (S.coarse j) (S.drawn j) (f i)) (i : Fin 192) :
    S.refined j i = row (S.coarse j) (S.drawn j) (f i) := by
  obtain ⟨z, hz, e⟩ := coarse_real h j
  have hc : Monotone (S.coarse j) := by rw [e]; exact fun a b hab => EReal.coe_le_coe_iff.mpr (hz hab)
  unfold refined
  rw [funext (drawn_real h j).2]
  exact merge_tent hc (drawn_real h j).1 f hf hm i

end Scene

namespace Ref

open Idealize.ShloMosaic.StableHlo Cert.ReferenceIdeal Cert.ReferenceIdeal.Value

variable (V : Valuation τ sig (Elt Ideal))

theorem fine_eq (h : (scene V).Ordered) (j : Fin 4096) : (scene V).refined j = fine V j := by
  obtain ⟨f, hf, hx, hm⟩ := positions_at V j
  exact funext fun i => (Scene.refined_eq h j f hf hm i).trans (hx i).symm

end Ref

end Cert.Nerf

end

end
-- ==== Proof.Bounds.lean ====
/- The precondition, read: every ray's bounds are finite and in order. -/
module

public import proofs.«01_k».proof.Defs
public import proofs.«01_k».proof.Proof.Ordered
public import Idealize.ShloMosaic.Lib.ReduceAll

@[expose] public section

set_option maxRecDepth 16384

noncomputable section

namespace Cert.Nerf

open Idealize.ShloMosaic Cert.Pre_ordered_bounds

/-- The shape relations of the precondition. -/
theorem bounds_facts : Cert.Pre_ordered_bounds.Facts where
  slices_S4096x2_S4096x1_0_0 := by decide
  shapeCasts_S4096x1_S4096 := by decide
  slices_S4096x2_S4096x1_0_1 := by decide
  bcast_S_S4096 := by decide
  reducesTo_S4096_S_d0 := by decide
  h_S_ := by decide

section
variable [Cert.Pre_ordered_bounds.Facts]

theorem holds_of_bit {p : Prop} [Decidable p] (h : BitVec.ofBool (decide p) = 1#1) : p := by
  by_contra hc
  simp [hc] at h

theorem least_word : Ideal.ofBits .f32 0xFF800000#32 = ⊥ := by
  simp [Ideal.ofBits, Ideal.ieee]

theorem greatest_word : Ideal.ofBits .f32 0x7F800000#32 = ⊤ := by
  simp [Ideal.ofBits, Ideal.ieee]

theorem bounds_at (x0 x1 : FVec Ideal S4096x3 .f32) (b : FVec Ideal S4096x2 .f32) (x3 : FVec Ideal S3x256 .f32) (x4 : FVec Ideal S256 .f32)
    (x5 : FVec Ideal S256x4 .f32) (x6 : FVec Ideal S4 .f32) (h : Cert.Pre_ordered_bounds.fn x0 x1 b x3 x4 x5 x6 = fun _ => 1#1) (j : Fin 4096) :
    @LE.le EReal _ (b (ix2 j 0)) (b (ix2 j 1)) ∧ @LT.lt EReal _ ⊥ (b (ix2 j 0)) ∧ @LT.lt EReal _ (b (ix2 j 1)) ⊤ := by
  have h0 := congrFun h ix0
  unfold Cert.Pre_ordered_bounds.fn at h0
  have h1 := Host.reduce_andi_all _ _ _ _ ix0 h0 (ix1 j)
  revert h1
  pointwise []
  rw [least_word, greatest_word]
  intro h2
  obtain ⟨h3, h4⟩ := IntOp.andi_eq_one.1 h2
  obtain ⟨h5, h6⟩ := IntOp.andi_eq_one.1 h3
  exact ⟨holds_of_bit h5, holds_of_bit h6, holds_of_bit h4⟩

end

end Cert.Nerf

end

end
-- ==== Proof.KernelRun.lean ====
/- The kernel's run: what its results and arguments hold at the end. -/
module

public import proofs.«01_k».proof.Proof.Gen.KernelIdeal.Frame

@[expose] public section

set_option maxRecDepth 16384

noncomputable section

namespace Cert.Nerf.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the results at what the last stretch of host operations leaves, and the arguments unchanged. -/
theorem run : θ_run (defs (F := Ideal)) (onTc (τ := τ) (main (F := Ideal))) ⟨m, fun _ => 0, ρ⟩ (fun r => ∀ c : Dev nD,
      r.2.mem ((c.tc : Thread nD τ).loc main_v43) = W13 m ρ c (Proc.devRef .tc main_v43)
      ∧ r.2.mem ((c.tc : Thread nD τ).loc main_v44) = W13 m ρ c (Proc.devRef .tc main_v44)
      ∧ r.2.mem ((c.tc : Thread nD τ).loc main_v45) = W13 m ρ c (Proc.devRef .tc main_v45)
      ∧ r.2.mem ((c.tc : Thread nD τ).loc main_v46) = W13 m ρ c (Proc.devRef .tc main_v46)
      ∧ r.2.mem ((c.tc : Thread nD τ).loc main_v47) = W13 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c =>
      ⟨h c _ (mem_uc main_v43 (by decide)),
       h c _ (mem_uc main_v44 (by decide)),
       h c _ (mem_uc main_v45 (by decide)),
       h c _ (mem_uc main_v46 (by decide)),
       h c _ (mem_uc main_v47 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.Nerf.Kern

end

end
-- ==== Proof.Value.lean ====
/- The two programs' results agree, on every ray. -/
module

public import proofs.«01_k».proof.Defs
public import proofs.«01_k».proof.Proof.Bounds
public import proofs.«01_k».proof.Proof.KernelRun

@[expose] public section

set_option maxRecDepth 16384

noncomputable section

namespace Cert.Nerf

open Idealize.ShloMosaic Idealize.SL.Sem Idealize.ShloMosaic.StableHlo Idealize.ShloMosaic.TcCoe

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's arguments at a device hold what the kernel's do. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The two programs are given the same scene. -/
theorem scene_eq (h : Agree m m' c) : Ref.scene (launchContents m' c) = Kern.scene m c := by
  obtain ⟨h0, h1, h2, h3, h4, h5, h6⟩ := h
  unfold Ref.scene Kern.scene
  congr 1
  · exact funext fun j => funext fun a => congrFun h0 (ix2 j a)
  · exact funext fun j => funext fun a => congrFun h1 (ix2 j a)
  · exact funext fun j => congrFun h2 (ix2 j 0)
  · exact funext fun j => congrFun h2 (ix2 j 1)
  · exact funext fun a => funext fun k => congrFun h3 (ix2 a k)
  · exact funext fun k => congrFun h4 (ix1 k)
  · exact funext fun a => funext fun k => congrFun h5 (ix2 a k)
  · exact funext fun k => congrFun h6 (ix1 k)

section
variable [Cert.Pre_ordered_bounds.Facts]

theorem ordered (h : Cert.Pre_KernelIdeal_ordered_bounds m) : (Kern.scene m c).Ordered := fun j =>
  bounds_at _ _ _ _ _ _ _ (h c) j

variable {m m'}

theorem positions_eq (h : Cert.Pre_KernelIdeal_ordered_bounds m) (ha : Agree m m' c) (j : Fin 4096) :
    Ref.fine (launchContents m' c) j = (Kern.scene m c).refined j := by
  have ho : (Ref.scene (launchContents m' c)).Ordered := by rw [scene_eq m m' c ha]; exact ordered m c h
  rw [← Ref.fine_eq _ ho, scene_eq m m' c ha]

theorem results0 (ha : Agree m m' c) :
    @Eq (Vec Ideal Cert.KernelIdeal.S4096x3 .f32)
      (Cert.ReferenceIdeal.Value.val5 (launchContents m' c) (Proc.devRef .tc Cert.ReferenceIdeal.main_v98))
      (Cert.KernelIdeal.Gen.W13 m ρ c (Proc.devRef .tc Cert.KernelIdeal.main_v43)) := by
  funext i
  obtain ⟨j, k, rfl⟩ : ∃ (j : Fin 4096) (k : Fin 3), i = ix2 j k := ⟨i 0, i 1, eq_ix2 i⟩
  refine (Ref.coarse_colours_at _ j k).trans (Eq.trans ?_ (Kern.first_result m ρ c j k).symm)
  rw [scene_eq m m' c ha]

theorem results1 (h : Cert.Pre_KernelIdeal_ordered_bounds m) (ha : Agree m m' c) :
    @Eq (Vec Ideal Cert.KernelIdeal.S4096x3 .f32)
      (Cert.ReferenceIdeal.Value.val5 (launchContents m' c) (Proc.devRef .tc Cert.ReferenceIdeal.main_v234))
      (Cert.KernelIdeal.Gen.W13 m ρ c (Proc.devRef .tc Cert.KernelIdeal.main_v44)) := by
  funext i
  obtain ⟨j, k, rfl⟩ : ∃ (j : Fin 4096) (k : Fin 3), i = ix2 j k := ⟨i 0, i 1, eq_ix2 i⟩
  refine (Ref.fine_colours_at _ j k).trans (Eq.trans ?_ (Kern.second_result m ρ c j k).symm)
  rw [scene_eq m m' c ha, positions_eq c h ha]

theorem results2 (h : Cert.Pre_KernelIdeal_ordered_bounds m) (ha : Agree m m' c) :
    @Eq (Vec Ideal Cert.KernelIdeal.S4096 .f32)
      (Cert.ReferenceIdeal.Value.val5 (launchContents m' c) (Proc.devRef .tc Cert.ReferenceIdeal.main_v236))
      (Cert.KernelIdeal.Gen.W13 m ρ c (Proc.devRef .tc Cert.KernelIdeal.main_v45)) := by
  funext i
  obtain ⟨j, rfl⟩ : ∃ j : Fin 4096, i = ix1 j := ⟨i 0, eq_ix1 i⟩
  refine (Ref.fine_depth_at _ j).trans (Eq.trans ?_ (Kern.third_result m ρ c j).symm)
  rw [scene_eq m m' c ha, positions_eq c h ha]

theorem results3 (h : Cert.Pre_KernelIdeal_ordered_bounds m) (ha : Agree m m' c) :
    @Eq (Vec Ideal Cert.KernelIdeal.S4096 .f32)
      (Cert.ReferenceIdeal.Value.val5 (launchContents m' c) (Proc.devRef .tc Cert.ReferenceIdeal.main_v237))
      (Cert.KernelIdeal.Gen.W13 m ρ c (Proc.devRef .tc Cert.KernelIdeal.main_v46)) := by
  funext i
  obtain ⟨j, rfl⟩ : ∃ j : Fin 4096, i = ix1 j := ⟨i 0, eq_ix1 i⟩
  refine (Ref.fine_opacity_at _ j).trans (Eq.trans ?_ (Kern.fourth_result m ρ c j).symm)
  rw [scene_eq m m' c ha, positions_eq c h ha]

theorem results4 (h : Cert.Pre_KernelIdeal_ordered_bounds m) (ha : Agree m m' c) :
    @Eq (Vec Ideal Cert.KernelIdeal.S4096x192 .f32)
      (Cert.ReferenceIdeal.Value.res_main_v230 (launchContents m' c))
      (Cert.KernelIdeal.Gen.W13 m ρ c (Proc.devRef .tc Cert.KernelIdeal.main_v47)) := by
  funext i
  obtain ⟨j, k, rfl⟩ : ∃ (j : Fin 4096) (k : Fin 192), i = ix2 j k := ⟨i 0, i 1, eq_ix2 i⟩
  refine (Ref.fine_weight_at _ j k).trans (Eq.trans ?_ (Kern.fifth_result m ρ c j k).symm)
  rw [scene_eq m m' c ha, positions_eq c h ha]

end

end Cert.Nerf

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.StableHlo

theorem reference_frame : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "big" .f32 0x7F61B1E6#32 ⊤ rfl

section
variable [Cert.Pre_ordered_bounds.Facts]

theorem algebraic : Cert.algebraic_KernelIdeal_ReferenceIdeal_pre_ordered_bounds := by
  intro m ρ m' ρ' hpre hagree
  refine ⟨_, _, _, _, _, Cert.Nerf.Kern.run m ρ, ?_⟩
  refine (θ_run Cert.ReferenceIdeal.defs _ _).mono (fun r h c => ?_) (Cert.ReferenceIdeal.Value.run (F := Ideal) m' ρ')
  obtain ⟨h0, h1, h2, h3, h4, hargs⟩ := h c
  have ha : Cert.Nerf.Agree m m' c := hagree c
  exact ⟨(h0.trans (Cert.ReferenceIdeal.Value.val5_main_v98 _).symm).trans (Cert.Nerf.results0 ρ c ha),
    (h1.trans (Cert.ReferenceIdeal.Value.val5_main_v234 _).symm).trans (Cert.Nerf.results1 ρ c hpre ha),
    (h2.trans (Cert.ReferenceIdeal.Value.val5_main_v236 _).symm).trans (Cert.Nerf.results2 ρ c hpre ha),
    (h3.trans (Cert.ReferenceIdeal.Value.val5_main_v237 _).symm).trans (Cert.Nerf.results3 ρ c hpre ha),
    h4.trans (Cert.Nerf.results4 ρ c hpre ha), hargs⟩

end

theorem claim : Cert.Claim :=
  ⟨Cert.Kernel.Gen.facts, Cert.KernelIdeal.Gen.facts, Cert.ReferenceIdeal.Gen.facts, Cert.Nerf.bounds_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    preserves,
    letI := Cert.Nerf.bounds_facts
    algebraic⟩

end Cert.Proof

end
